-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows [hPre_finite_rows : Cert.Pre_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows [hPre_finite_rows : Cert.Pre_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_rows [hKernelIdeal : Cert.KernelIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_rows [hReferenceIdeal : Cert.ReferenceIdeal.Facts] [hPre_finite_rows : Cert.Pre_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_rows [hKernelIdeal : Cert.KernelIdeal.Facts] [hReferenceIdeal : Cert.ReferenceIdeal.Facts] [hPre_finite_rows : Cert.Pre_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_rows : Cert.Pre_finite_rows.Facts),
    quiescent_Kernel (hKernel := hKernel)
    ∧ quiescent_KernelIdeal (hKernelIdeal := hKernelIdeal)
    ∧ quiescent_KernelIdeal_pre_finite_rows (hKernelIdeal := hKernelIdeal) (hPre_finite_rows := hPre_finite_rows)
    ∧ quiescent_ReferenceIdeal (hReferenceIdeal := hReferenceIdeal)
    ∧ quiescent_ReferenceIdeal_pre_finite_rows (hReferenceIdeal := hReferenceIdeal) (hPre_finite_rows := hPre_finite_rows)
    ∧ preserves_Kernel_KernelIdeal
    ∧ algebraic_KernelIdeal_ReferenceIdeal_pre_finite_rows (hKernelIdeal := hKernelIdeal) (hReferenceIdeal := hReferenceIdeal) (hPre_finite_rows := hPre_finite_rows)
-- ==== Pre_finite_rows.lean ====
abbrev S8192x2048 : Shape := ⟨2, ![8192, 2048]⟩
abbrev S2048x64 : Shape := ⟨2, ![2048, 64]⟩
abbrev S64x2000 : Shape := ⟨2, ![64, 2000]⟩
abbrev S2000 : Shape := ⟨1, ![2000]⟩
abbrev S_ : Shape := ⟨0, ![]⟩

class Facts : Prop where
  bcast_S_S8192x2048 : S_.BroadcastsInDim S8192x2048 (![] : Fin 0 → Fin S8192x2048.rank)
  bcast_S_S2048x64 : S_.BroadcastsInDim S2048x64 (![] : Fin 0 → Fin S2048x64.rank)

variable [Facts]

def fn {F : FTy → Type} [FloatOps F] (main_arg0 : FVec F S8192x2048 .f32) (main_arg1 : FVec F S2048x64 .f32) (main_arg2 : FVec F S64x2000 .f32) (main_arg3 : FVec F S2000 .f32) : IVec S8192x2048 1 × IVec S2048x64 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048x64 .f32 := Host.absf main_arg1
  let main_cst_0 : FVec F S_ .f32 := constant S_ .f32 0x7F800000#32
  let main_v4 : FVec F S2048x64 .f32 := broadcastInDim S2048x64 ![] bcast_S_S2048x64 main_cst_0
  let main_v5 : IVec S2048x64 1 := cmpf .olt main_v3 main_v4
  (main_v2, main_v5)
-- ==== Kernel.lean ====
abbrev S8192x2048 : Shape := ⟨2, ![8192, 2048]⟩
abbrev S2048x64 : Shape := ⟨2, ![2048, 64]⟩
abbrev S64x2000 : Shape := ⟨2, ![64, 2000]⟩
abbrev S2000 : Shape := ⟨1, ![2000]⟩
abbrev S1x2000 : Shape := ⟨2, ![1, 2000]⟩
abbrev S8192x2000 : Shape := ⟨2, ![8192, 2000]⟩
abbrev S1x1 : Shape := ⟨2, ![1, 1]⟩
abbrev S8192x2 : Shape := ⟨2, ![8192, 2]⟩
abbrev S_ : Shape := ⟨0, ![]⟩
abbrev S1024x2048 : Shape := ⟨2, ![1024, 2048]⟩
abbrev S1024x2 : Shape := ⟨2, ![1024, 2]⟩
abbrev S2x1024x2000 : Shape := ⟨3, ![2, 1024, 2000]⟩
abbrev S2x64 : Shape := ⟨2, ![2, 64]⟩
abbrev S2 : Shape := ⟨1, ![2]⟩
abbrev S1024x64 : Shape := ⟨2, ![1024, 64]⟩
abbrev S1024 : Shape := ⟨1, ![1024]⟩
abbrev S1024x1 : Shape := ⟨2, ![1024, 1]⟩
abbrev S64 : Shape := ⟨1, ![64]⟩
abbrev S1x64 : Shape := ⟨2, ![1, 64]⟩
abbrev S1 : Shape := ⟨1, ![1]⟩
abbrev S1024x1920 : Shape := ⟨2, ![1024, 1920]⟩
abbrev S1x1024x1920 : Shape := ⟨3, ![1, 1024, 1920]⟩
abbrev S1024x80 : Shape := ⟨2, ![1024, 80]⟩
abbrev S1x1024x80 : Shape := ⟨3, ![1, 1024, 80]⟩
abbrev S1024x2000 : Shape := ⟨2, ![1024, 2000]⟩
abbrev S1x1024x2000 : Shape := ⟨3, ![1, 1024, 2000]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S64x2000, .f32⟩
  | .hbm, ⟨3, _⟩ => ⟨S2000, .f32⟩
  | .hbm, ⟨4, _⟩ => ⟨S1x2000, .f32⟩
  | .hbm, ⟨5, _⟩ => ⟨S8192x2000, .f32⟩
  | .hbm, ⟨6, _⟩ => ⟨S1x1, .f32⟩
  | .hbm, ⟨7, _⟩ => ⟨S8192x2, .i32⟩
  | .hbm, ⟨8, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S64x2000, .f32⟩
  | .local _ .vmem, ⟨4, _⟩ => ⟨S1x2000, .f32⟩
  | .local _ .vmem, ⟨5, _⟩ => ⟨S1x1, .f32⟩
  | .local _ .vmem, ⟨6, _⟩ => ⟨S1024x2, .i32⟩
  | .local _ .vmem, ⟨7, _⟩ => ⟨S1024x2, .i32⟩
  | .local _ .vmem, ⟨8, _⟩ => ⟨S2x1024x2000, .f32⟩
  | .local _ .vmem, ⟨9, _⟩ => ⟨S2x64, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0_0 : Ref sig .tc := ⟨.hbm, 5, rfl⟩
abbrev main_call0_v1_1 : Ref sig .tc := ⟨.hbm, 6, rfl⟩
abbrev main_v0_2 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c2_i32_21 : BitVec 32 := 2#32
  let v61 : BitVec 1 := Scalar.cmpi .sge arg0 c2_i32_21
  let v62 : BitVec 32 := Scalar.extui v61
  let c0_i32_22 : BitVec 32 := 0#32
  let v63 : BitVec 1 := Scalar.cmpi .ne v62 c0_i32_22
  v63

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 2 → Nat :=
  let arg0 : BitVec 32 := BitVec.ofNat 32 (i 0).val
  let c2_i32_37 : BitVec 32 := 2#32
  let v88 : BitVec 32 := Scalar.subi arg0 c2_i32_37
  let c1024_i32_38 : BitVec 32 := 1024#32
  let v89 : BitVec 32 := Scalar.muli v88 c1024_i32_38
  let c0_i32_39 : BitVec 32 := 0#32
  ![v89.toNat, 0]
def k0_off3 (i : grid0.Coords) : Fin 3 → Nat :=
  let arg0 : BitVec 32 := BitVec.ofNat 32 (i 0).val
  let c2_i32 : BitVec 32 := 2#32
  let v0 : BitVec 32 := Scalar.remsi arg0 c2_i32
  let c0_i32_40 : BitVec 32 := 0#32
  let c0_i32_41 : BitVec 32 := 0#32
  ![v0.toNat, 0, 0]
def k0_off4 (i : grid0.Coords) : Fin 2 → Nat :=
  let arg0 : BitVec 32 := BitVec.ofNat 32 (i 0).val
  let c2_i32_37 : BitVec 32 := 2#32
  let v88 : BitVec 32 := Scalar.subi arg0 c2_i32_37
  let c1024_i32_38 : BitVec 32 := 1024#32
  let v89 : BitVec 32 := Scalar.muli v88 c1024_i32_38
  let c1920_i32_42 : BitVec 32 := 1920#32
  ![v89.toNat, 1920]
def k0_off5 (i : grid0.Coords) : Fin 3 → Nat :=
  let arg0 : BitVec 32 := BitVec.ofNat 32 (i 0).val
  let c2_i32 : BitVec 32 := 2#32
  let v0 : BitVec 32 := Scalar.remsi arg0 c2_i32
  let c0_i32_43 : BitVec 32 := 0#32
  let c1920_i32_44 : BitVec 32 := 1920#32
  ![v0.toNat, 0, 1920]
def k0_off6 (i : grid0.Coords) : Fin 3 → Nat :=
  let arg0 : BitVec 32 := BitVec.ofNat 32 (i 0).val
  let c2_i32 : BitVec 32 := 2#32
  let v0 : BitVec 32 := Scalar.remsi arg0 c2_i32
  let v70 : Index := Scalar.indexCast v0
  let c0_28 : Index := 0#32
  let c0_29 : Index := 0#32
  ![v70.toNat, 0, 0]
def k0_off7 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off8 (i : grid0.Coords) : Fin 2 → Nat :=
  let arg0 : BitVec 32 := BitVec.ofNat 32 (i 0).val
  let c1024_i32 : BitVec 32 := 1024#32
  let v74 : BitVec 32 := Scalar.muli arg0 c1024_i32
  let c0_i32_30 : BitVec 32 := 0#32
  ![v74.toNat, 0]
def k0_off9 (i : grid0.Coords) : Fin 3 → Nat :=
  let arg0 : BitVec 32 := BitVec.ofNat 32 (i 0).val
  let c2_i32 : BitVec 32 := 2#32
  let v0 : BitVec 32 := Scalar.remsi arg0 c2_i32
  let c0_i32_31 : BitVec 32 := 0#32
  let c0_i32_32 : BitVec 32 := 0#32
  ![v0.toNat, 0, 0]
def k0_off10 (i : grid0.Coords) : Fin 2 → Nat :=
  let arg0 : BitVec 32 := BitVec.ofNat 32 (i 0).val
  let c1024_i32 : BitVec 32 := 1024#32
  let v74 : BitVec 32 := Scalar.muli arg0 c1024_i32
  let c1920_i32 : BitVec 32 := 1920#32
  ![v74.toNat, 1920]
def k0_off11 (i : grid0.Coords) : Fin 3 → Nat :=
  let arg0 : BitVec 32 := BitVec.ofNat 32 (i 0).val
  let c2_i32 : BitVec 32 := 2#32
  let v0 : BitVec 32 := Scalar.remsi arg0 c2_i32
  let c0_i32_33 : BitVec 32 := 0#32
  let c1920_i32_34 : BitVec 32 := 1920#32
  ![v0.toNat, 0, 1920]
def k0_cond4 (i : grid0.Coords) : BitVec 1 :=
  let arg0 : BitVec 32 := BitVec.ofNat 32 (i 0).val
  let c7_i32_35 : BitVec 32 := 7#32
  let v85 : BitVec 1 := Scalar.cmpi .eq arg0 c7_i32_35
  let v86 : BitVec 32 := Scalar.extui v85
  let c0_i32_36 : BitVec 32 := 0#32
  let v87 : BitVec 1 := Scalar.cmpi .ne v86 c0_i32_36
  v87

def k0_off12 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off13 (i : grid0.Coords) : Fin 2 → Nat :=
  let arg0 : BitVec 32 := BitVec.ofNat 32 (i 0).val
  let c1024_i32 : BitVec 32 := 1024#32
  let v74 : BitVec 32 := Scalar.muli arg0 c1024_i32
  let c0_i32_37 : BitVec 32 := 0#32
  ![v74.toNat, 0]
def k0_off14 (i : grid0.Coords) : Fin 3 → Nat :=
  let arg0 : BitVec 32 := BitVec.ofNat 32 (i 0).val
  let c2_i32 : BitVec 32 := 2#32
  let v0 : BitVec 32 := Scalar.remsi arg0 c2_i32
  let c0_i32_38 : BitVec 32 := 0#32
  let c0_i32_39 : BitVec 32 := 0#32
  ![v0.toNat, 0, 0]
def k0_off15 (i : grid0.Coords) : Fin 2 → Nat :=
  let arg0 : BitVec 32 := BitVec.ofNat 32 (i 0).val
  let c1024_i32 : BitVec 32 := 1024#32
  let v74 : BitVec 32 := Scalar.muli arg0 c1024_i32
  let c1920_i32_40 : BitVec 32 := 1920#32
  ![v74.toNat, 1920]
def k0_off16 (i : grid0.Coords) : Fin 3 → Nat :=
  let arg0 : BitVec 32 := BitVec.ofNat 32 (i 0).val
  let c2_i32 : BitVec 32 := 2#32
  let v0 : BitVec 32 := Scalar.remsi arg0 c2_i32
  let c0_i32_41 : BitVec 32 := 0#32
  let c1920_i32_42 : BitVec 32 := 1920#32
  ![v0.toNat, 0, 1920]
def k0_cond5 (i : grid0.Coords) : BitVec 1 :=
  let arg0 : BitVec 32 := BitVec.ofNat 32 (i 0).val
  let c1_i32 : BitVec 32 := 1#32
  let v98 : BitVec 1 := Scalar.cmpi .sge arg0 c1_i32
  let v99 : BitVec 32 := Scalar.extui v98
  let c0_i32_43 : BitVec 32 := 0#32
  let v100 : BitVec 1 := Scalar.cmpi .ne v99 c0_i32_43
  v100

def k0_off17 (i : grid0.Coords) : Fin 1 → Nat :=
  let c1_i32_45 : BitVec 32 := 1#32
  let arg0 : BitVec 32 := BitVec.ofNat 32 (i 0).val
  let c2_i32 : BitVec 32 := 2#32
  let v0 : BitVec 32 := Scalar.remsi arg0 c2_i32
  let v102 : BitVec 32 := Scalar.subi c1_i32_45 v0
  ![v102.toNat]
def k0_off18 (i : grid0.Coords) : Fin 2 → Nat :=
  let arg0 : BitVec 32 := BitVec.ofNat 32 (i 0).val
  let c1_i32_44 : BitVec 32 := 1#32
  let v101 : BitVec 32 := Scalar.subi arg0 c1_i32_44
  let c1024_i32_46 : BitVec 32 := 1024#32
  let v103 : BitVec 32 := Scalar.muli v101 c1024_i32_46
  let c0_i32_47 : BitVec 32 := 0#32
  ![v103.toNat, 0]
def k0_off19 (i : grid0.Coords) : Fin 3 → Nat :=
  let c1_i32_45 : BitVec 32 := 1#32
  let arg0 : BitVec 32 := BitVec.ofNat 32 (i 0).val
  let c2_i32 : BitVec 32 := 2#32
  let v0 : BitVec 32 := Scalar.remsi arg0 c2_i32
  let v102 : BitVec 32 := Scalar.subi c1_i32_45 v0
  let c0_i32_48 : BitVec 32 := 0#32
  let c0_i32_49 : BitVec 32 := 0#32
  ![v102.toNat, 0, 0]
def k0_off20 (i : grid0.Coords) : Fin 2 → Nat :=
  let arg0 : BitVec 32 := BitVec.ofNat 32 (i 0).val
  let c1_i32_44 : BitVec 32 := 1#32
  let v101 : BitVec 32 := Scalar.subi arg0 c1_i32_44
  let c1024_i32_46 : BitVec 32 := 1024#32
  let v103 : BitVec 32 := Scalar.muli v101 c1024_i32_46
  let c1920_i32_50 : BitVec 32 := 1920#32
  ![v103.toNat, 1920]
def k0_off21 (i : grid0.Coords) : Fin 3 → Nat :=
  let c1_i32_45 : BitVec 32 := 1#32
  let arg0 : BitVec 32 := BitVec.ofNat 32 (i 0).val
  let c2_i32 : BitVec 32 := 2#32
  let v0 : BitVec 32 := Scalar.remsi arg0 c2_i32
  let v102 : BitVec 32 := Scalar.subi c1_i32_45 v0
  let c0_i32_51 : BitVec 32 := 0#32
  let c1920_i32_52 : BitVec 32 := 1920#32
  ![v102.toNat, 0, 1920]
def k0_cond2 (i : grid0.Coords) : BitVec 1 :=
  let arg0 : BitVec 32 := BitVec.ofNat 32 (i 0).val
  let c7_i32 : BitVec 32 := 7#32
  let v58 : BitVec 1 := Scalar.cmpi .eq arg0 c7_i32
  let v59 : BitVec 32 := Scalar.extui v58
  let c0_i32_20 : BitVec 32 := 0#32
  let v60 : BitVec 1 := Scalar.cmpi .ne v59 c0_i32_20
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8192x2048 : Shape := ⟨2, ![8192, 2048]⟩
abbrev S2048x64 : Shape := ⟨2, ![2048, 64]⟩
abbrev S64x2000 : Shape := ⟨2, ![64, 2000]⟩
abbrev S2000 : Shape := ⟨1, ![2000]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S8192x2x1 : Shape := ⟨3, ![8192, 2, 1]⟩
abbrev S1x1x64 : Shape := ⟨3, ![1, 1, 64]⟩
abbrev S8192x2x64 : Shape := ⟨3, ![8192, 2, 64]⟩
abbrev S64 : Shape := ⟨1, ![64]⟩
abbrev S8192x2000 : Shape := ⟨2, ![8192, 2000]⟩
abbrev S1x2000 : Shape := ⟨2, ![1, 2000]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S64x2000, .f32⟩
  | .hbm, ⟨3, _⟩ => ⟨S2000, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S8192x2, .f32⟩
  | .hbm, ⟨20, _⟩ => ⟨S8192x2, .i32⟩
  | .hbm, ⟨21, _⟩ => ⟨S8192x2x1, .i32⟩
  | .hbm, ⟨22, _⟩ => ⟨S1x1x64, .i32⟩
  | .hbm, ⟨23, _⟩ => ⟨S8192x2x64, .i32⟩
  | .hbm, ⟨24, _⟩ => ⟨S8192x2x64, .i32⟩
  | .hbm, ⟨25, _⟩ => ⟨S8192x2x64, .i1⟩
  | .hbm, ⟨26, _⟩ => ⟨S8192x2x64, .f32⟩
  | .hbm, ⟨27, _⟩ => ⟨S_, .f32⟩
  | .hbm, ⟨28, _⟩ => ⟨S8192x64, .f32⟩
  | .hbm, ⟨29, _⟩ => ⟨S_, .f32⟩
  | .hbm, ⟨30, _⟩ => ⟨S64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8192x2000, .f32⟩
  | .hbm, ⟨48, _⟩ => ⟨S1x2000, .f32⟩
  | .hbm, ⟨49, _⟩ => ⟨S8192x2000, .f32⟩
  | .hbm, ⟨50, _⟩ => ⟨S8192x2000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_values : Ref sig .tc := ⟨.hbm, 19, rfl⟩
abbrev main_indices : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_cst_6 : Ref sig .tc := ⟨.hbm, 37, rfl⟩
abbrev main_v19 : Ref sig .tc := ⟨.hbm, 38, rfl⟩
abbrev main_cst_7 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_cst_9 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Proof.Spec.lean ====
/-
  One row of 64 numbers: its greatest number, its softmax, the position that the kernel picks (the least one at which
  the row takes its greatest value), and the two positions that a stable sort of the row, greatest first, puts in front.
-/
module

public import Idealize.ShloMosaic.Lib.Pointwise
public import Idealize.ShloMosaic.Lib.SortPrefix

@[expose] public section

set_option maxRecDepth 16384

noncomputable section

namespace Cert.Top2

open Idealize.ShloMosaic Idealize.SL.Sem

/-- The greatest number of a row. -/
def mx (L : Fin 64 → EReal) : EReal := Finset.fold max (Ideal.ofBits FTy.f32 0xFF800000#32) (fun x => L x) Finset.univ

/-- The softmax of a row. -/
def sm (L : Fin 64 → EReal) (j : Fin 64) : EReal := Ideal.div (Ideal.exp (L j - mx L)) (∑ k, Ideal.exp (L k - mx L))

/-- The least position at which the row takes its greatest value, as a word. -/
def pick (P : Fin 64 → EReal) : BitVec 32 :=
  Finset.fold IntOp.minsi (2147483647#32) (fun x : Fin 64 => if P x = mx P then BitVec.ofNat 32 ↑x else 64#32) Finset.univ

/-- The row with −1 at the position that a word names. -/
def hide (w : BitVec 32) (P : Fin 64 → EReal) (x : Fin 64) : EReal :=
  Scalar.select (IntOp.cmpi CmpIPredicate.eq (BitVec.ofNat 32 ↑x) w) (Ideal.ofBits FTy.f32 0xBF800000#32) (P x)

theorem low : Ideal.ofBits FTy.f32 0xFF800000#32 = ⊥ := by
  simp [Ideal.ofBits, Ideal.ieee]

theorem mx_spec (L : Fin 64 → EReal) : ∃ i, mx L = L i ∧ ∀ x, L x ≤ L i := by
  obtain ⟨i, hi⟩ := Finite.exists_max L
  refine ⟨i, le_antisymm ?_ ?_, hi⟩
  · exact (Finset.fold_max_le _).2 ⟨by rw [low]; exact bot_le, fun x _ => hi x⟩
  · exact (Finset.le_fold_max _).2 (Or.inr ⟨i, Finset.mem_univ _, le_rfl⟩)

/-- A maximum with the starting value again changes nothing. -/
theorem max_low (L : Fin 64 → EReal) : max (Ideal.ofBits FTy.f32 0xFF800000#32) (mx L) = mx L := by
  rw [low]; exact max_eq_right bot_le

theorem minsi_cases (a b : BitVec 32) : (IntOp.minsi a b = a ∨ IntOp.minsi a b = b)
    ∧ (IntOp.minsi a b).toInt ≤ a.toInt ∧ (IntOp.minsi a b).toInt ≤ b.toInt := by
  unfold IntOp.minsi
  split
  · rename_i h
    simp only [BitVec.sle_iff_toInt_le, BitVec.slt_iff_toInt_lt] at h
    exact ⟨.inl rfl, by omega, by omega⟩
  · rename_i h
    simp only [BitVec.sle_iff_toInt_le, BitVec.slt_iff_toInt_lt] at h
    exact ⟨.inr rfl, by omega, by omega⟩

theorem fold_minsi (b : BitVec 32) (f : Fin 64 → BitVec 32) (s : Finset (Fin 64)) :
    (Finset.fold IntOp.minsi b f s).toInt ≤ b.toInt ∧ (∀ x ∈ s, (Finset.fold IntOp.minsi b f s).toInt ≤ (f x).toInt)
      ∧ (Finset.fold IntOp.minsi b f s = b ∨ ∃ x ∈ s, Finset.fold IntOp.minsi b f s = f x) := by
  induction s using Finset.induction_on with
  | empty => simp
  | insert a s ha ih =>
    rw [Finset.fold_insert ha]
    obtain ⟨h1, h2, h3⟩ := ih
    obtain ⟨c1, c2, c3⟩ := minsi_cases (f a) (Finset.fold IntOp.minsi b f s)
    refine ⟨by omega, fun x hx => ?_, ?_⟩
    · rcases Finset.mem_insert.1 hx with rfl | hx
      · exact c2
      · exact c3.trans (h2 x hx)
    · rcases c1 with c1 | c1
      · exact Or.inr ⟨a, Finset.mem_insert_self .., c1⟩
      · rcases h3 with h3 | ⟨x, hx, h3⟩
        · exact Or.inl (c1.trans h3)
        · exact Or.inr ⟨x, Finset.mem_insert_of_mem hx, c1.trans h3⟩

theorem toInt_small (x : Fin 64) : (BitVec.ofNat 32 x.val).toInt = x.val := by
  have := x.isLt
  rw [BitVec.toInt_eq_toNat_of_lt] <;> simp only [BitVec.toNat_ofNat] <;> omega

theorem ofNat_inj (x y : Fin 64) : BitVec.ofNat 32 x.val = BitVec.ofNat 32 y.val ↔ x = y := by
  refine ⟨fun h => Fin.ext ?_, fun h => by rw [h]⟩
  have := congrArg BitVec.toInt h
  rw [toInt_small, toInt_small] at this
  exact_mod_cast this

/-- What the kernel picks is a greatest entry, and the first of these. -/
theorem pick_spec (P : Fin 64 → EReal) : ∃ i : Fin 64, pick P = BitVec.ofNat 32 i.val ∧ (∀ x, P x ≤ P i) ∧ ∀ x, P x = P i → i ≤ x := by
  obtain ⟨i0, h0, hmax⟩ := mx_spec P
  obtain ⟨hb, hf, hm⟩ := fold_minsi 2147483647#32 (fun x : Fin 64 => if P x = mx P then BitVec.ofNat 32 ↑x else 64#32) Finset.univ
  change (pick P).toInt ≤ _ at hb
  change ∀ x ∈ _, (pick P).toInt ≤ _ at hf
  change pick P = _ ∨ ∃ x ∈ _, pick P = _ at hm
  have hle : ∀ x, P x = mx P → (pick P).toInt ≤ x.val := fun x hx => by
    have := hf x (Finset.mem_univ _)
    rwa [if_pos hx, toInt_small] at this
  have hi0 := hle i0 h0.symm
  have := i0.isLt
  rcases hm with hm | ⟨i, -, hm⟩
  · rw [hm] at hi0
    have e : (2147483647#32 : BitVec 32).toInt = 2147483647 := by decide
    omega
  · by_cases h : P i = mx P
    · rw [if_pos h] at hm
      refine ⟨i, hm, fun x => by rw [h, h0]; exact hmax x, fun x hx => ?_⟩
      have := hle x (hx.trans h)
      rw [hm, toInt_small] at this
      exact_mod_cast this
    · rw [if_neg h] at hm
      rw [hm] at hi0
      have e : (64#32 : BitVec 32).toInt = 64 := by decide
      omega

theorem neg_one : Ideal.ofBits FTy.f32 0xBF800000#32 < 0 := by
  have h : Ideal.ofBits FTy.f32 0xBF800000#32 = ((-(1 : ℝ) : ℝ) : EReal) := by
    simp [Ideal.ofBits, Ideal.ieee, -EReal.coe_mul, -EReal.coe_neg]; norm_num
  rw [h]; exact_mod_cast (by norm_num : (-(1 : ℝ)) < 0)

theorem hide_eq (i : Fin 64) (P : Fin 64 → EReal) (x : Fin 64) :
    hide (BitVec.ofNat 32 i.val) P x = if x = i then Ideal.ofBits FTy.f32 0xBF800000#32 else P x := by
  unfold hide
  by_cases h : x = i
  · rw [if_pos h, h]; simp [IntOp.cmpi, Scalar.select]
  · rw [if_neg h]
    have : ¬ BitVec.ofNat 32 x.val = BitVec.ofNat 32 i.val := fun e => h ((ofNat_inj x i).1 e)
    have e : (BitVec.ofNat 32 x.val == BitVec.ofNat 32 i.val) = false := by simpa using this
    simp only [IntOp.cmpi, Scalar.select, e]; rfl

/-- On positions in ascending order a stable sort is the sort by value and then by position. -/
theorem stable {n : ℕ} (B R : Fin n → Fin n → Bool) (h : ∀ a b, a < b → B b a = R b a) (l : List (Fin n))
    (hl : l.Pairwise (· < ·)) : stableSort B l = stableSort R l := by
  induction l with
  | nil => rfl
  | cons a l ih =>
    rw [List.pairwise_cons] at hl
    unfold stableSort
    rw [ih hl.2]
    exact insertBefore_congr B R a _ fun b hb => h a b (hl.1 b ((perm_stableSort R l).mem_iff.mp hb))

theorem sorted_of {n : ℕ} {B R : Fin n → Fin n → Bool} (h : sortPositions n B = sortPositions n R) : sortedFrom B = sortedFrom R := by
  funext k
  unfold sortedFrom
  rw [List.get_of_eq h]
  rfl

/-- The order of the host's selection: greater first. -/
def before (P : Fin 64 → EReal) (a b : Fin 64) : Bool := decide (P b < P a)

/-- … and at equal values the lower position first. -/
def before' (P : Fin 64 → EReal) (a b : Fin 64) : Bool := decide (P b < P a) || (decide (P a = P b) && decide (a < b))

theorem total (P : Fin 64 → EReal) : StrictTotalBefore (before' P) :=
  StrictTotalBefore.of_key_then_position (fun a b : EReal => decide (b < a)) P (by simp)
    (fun a b c h1 h2 => by simp only [decide_eq_true_eq] at *; exact h2.trans h1)
    (fun a b => by simp only [decide_eq_true_eq]; rcases lt_trichotomy a b with h | h | h <;> simp [h])

theorem sorted_eq (P : Fin 64 → EReal) : sortedFrom (before P) = sortedFrom (before' P) := by
  have h : sortPositions 64 (before P) = sortPositions 64 (before' P) :=
    stable _ _ (fun a b hab => by
      have : ¬ b < a := not_lt.2 hab.le
      simp [before, before', this]) _ (List.pairwise_lt_finRange 64)
  exact sorted_of h

/-- The two words that the kernel picks from a row of nonnegative numbers are the first two positions of the
    stable sort, greatest first. -/
theorem two (P : Fin 64 → EReal) (hP : ∀ x, 0 ≤ P x) (k : Fin 2) :
    BitVec.ofNat 32 (sortedFrom (before P) (k.castLE (by decide : 2 ≤ 64))).val
      = if k.val < 1 then pick P else pick (hide (pick P) P) := by
  obtain ⟨i, hi, hmax, hmin⟩ := pick_spec P
  obtain ⟨j, hj, hmax', hmin'⟩ := pick_spec (hide (pick P) P)
  rw [hi] at hmax' hmin'
  simp only [hide_eq] at hmax' hmin'
  have hij : j ≠ i := by
    rintro rfl
    obtain ⟨x, hx⟩ : ∃ x : Fin 64, x ≠ j := exists_ne j
    have := hmax' x
    rw [if_neg hx, if_pos rfl] at this
    exact absurd (neg_one.trans_le (hP x)) (not_lt.2 this)
  simp only [if_neg hij] at hmax' hmin'
  have h2 : ∀ x, x ≠ i → P x ≤ P j := fun x hx => by have := hmax' x; rwa [if_neg hx] at this
  have h3 : ∀ x, x ≠ i → P x = P j → j ≤ x := fun x hx e => hmin' x (by rw [if_neg hx]; exact e)
  have key := (total P).sortedFrom_eq_of_prefix (k := 2) (by decide) ![i, j] ?_ ?_ ?_ k
  · rw [sorted_eq, key, hj, hi]
    fin_cases k
    · simp
    · simp
  · intro a b hab
    fin_cases a <;> fin_cases b <;> simp_all [hij.symm]
  · intro a b hab
    have e : a = 0 ∧ b = 1 := by revert a b; decide
    obtain ⟨rfl, rfl⟩ := e
    simp only [before', Bool.or_eq_false_iff, Bool.and_eq_false_iff, decide_eq_false_iff_not]
    refine ⟨not_lt.2 (hmax j), ?_⟩
    by_cases e : P j = P i
    · exact Or.inr (not_lt.2 (hmin j e))
    · exact Or.inl e
  · intro a p hp
    have hpi : p ≠ i := fun e => hp 0 e.symm
    have hpj : p ≠ j := fun e => hp 1 e.symm
    simp only [before', Bool.or_eq_false_iff, Bool.and_eq_false_iff, decide_eq_false_iff_not]
    fin_cases a
    · refine ⟨not_lt.2 (hmax p), ?_⟩
      by_cases e : P p = P i
      · exact Or.inr (not_lt.2 (hmin p e))
      · exact Or.inl e
    · refine ⟨not_lt.2 (h2 p hpi), ?_⟩
      by_cases e : P p = P j
      · exact Or.inr (not_lt.2 (h3 p hpi e))
      · exact Or.inl e

end Cert.Top2
-- ==== Proof.Real.lean ====
/-
  Rows of real numbers among the extended reals: a softmax of such a row is a row of nonnegative real numbers, and the
  balance loss is the same number whether the two averages are taken before the sum over the experts or after it.
-/
module

public import proofs.«01_k».proof.Proof.Spec

@[expose] public section

set_option maxRecDepth 16384

noncomputable section

namespace Cert.Top2

open Idealize.ShloMosaic Idealize.SL.Sem

/-- A real number among the extended reals. -/
def Re (x : EReal) : Prop := ∃ r : ℝ, x = (r : EReal)

theorem Re.add {x y : EReal} : Re x → Re y → Re (x + y) := by
  rintro ⟨a, rfl⟩ ⟨b, rfl⟩; exact ⟨a + b, (EReal.coe_add a b).symm⟩

theorem Re.mul {x y : EReal} : Re x → Re y → Re (x * y) := by
  rintro ⟨a, rfl⟩ ⟨b, rfl⟩; exact ⟨a * b, (EReal.coe_mul a b).symm⟩

theorem Re.sum {n : ℕ} {f : Fin n → EReal} (h : ∀ i, Re (f i)) : Re (∑ i, f i) :=
  Finset.sum_induction f Re (fun _ _ => Re.add) ⟨0, rfl⟩ fun i _ => h i

theorem sum_coe {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem top : Ideal.ofBits FTy.f32 0x7F800000#32 = ⊤ := by
  simp [Ideal.ofBits, Ideal.ieee]

/-- A number whose magnitude is below +∞ is real. -/
theorem Re.of_abs {x : EReal} (h : max x (-x) < ⊤) : Re x := by
  induction x using EReal.rec with
  | bot => simp at h
  | coe r => exact ⟨r, rfl⟩
  | top => simp at h

/-- The softmax of a row of real numbers is a row of nonnegative real numbers. -/
theorem sm_real (L : Fin 64 → EReal) (h : ∀ j, Re (L j)) : ∃ p : Fin 64 → ℝ, ∀ j, 0 ≤ p j ∧ sm L j = (p j : EReal) := by
  choose l hl using h
  obtain ⟨i, hi, -⟩ := mx_spec L
  have he : ∀ j, Ideal.exp (L j - mx L) = ((Real.exp (l j - l i) : ℝ) : EReal) := fun j => by
    rw [hi, hl, hl, ← EReal.coe_sub]; rfl
  have hs : (0 : ℝ) < ∑ k, Real.exp (l k - l i) := Finset.sum_pos (fun k _ => Real.exp_pos _) ⟨i, Finset.mem_univ _⟩
  refine ⟨fun j => Real.exp (l j - l i) * (1 / ∑ k, Real.exp (l k - l i)), fun j => ⟨?_, ?_⟩⟩
  · have := Real.exp_pos (l j - l i)
    positivity
  · unfold sm
    simp only [he]
    rw [sum_coe, Ideal.div_coe hs.ne', ← EReal.coe_mul]

theorem Re.sm {L : Fin 64 → EReal} (h : ∀ j, Re (L j)) (j : Fin 64) : Re (sm L j) := by
  obtain ⟨p, hp⟩ := sm_real L h
  exact ⟨p j, (hp j).2⟩

theorem sm_nonneg {L : Fin 64 → EReal} (h : ∀ j, Re (L j)) (j : Fin 64) : 0 ≤ sm L j := by
  obtain ⟨p, hp⟩ := sm_real L h
  rw [(hp j).2]; exact_mod_cast (hp j).1

theorem c64 : Ideal.ofBits FTy.f32 0x42800000#32 = ((64 : ℝ) : EReal) := by
  simp [Ideal.ofBits, Ideal.ieee, -EReal.coe_mul]; norm_num

theorem c8192 : Ideal.ofBits FTy.f32 0x46000000#32 = ((8192 : ℝ) : EReal) := by
  simp [Ideal.ofBits, Ideal.ieee, -EReal.coe_mul]; norm_num

theorem c2 : Ideal.ofBits FTy.f32 0x40000000#32 = ((2 : ℝ) : EReal) := by
  simp [Ideal.ofBits, Ideal.ieee, -EReal.coe_mul]; norm_num

theorem cscale : Ideal.ofBits FTy.f32 0x35000000#32 = (((1 : ℝ) / 2097152 : ℝ) : EReal) := by
  simp [Ideal.ofBits, Ideal.ieee, -EReal.coe_mul]; norm_num

/-- The kernel's balance loss (one factor after the sum) is the reference's (each average on its own). -/
theorem aux_eq (C S : Fin 64 → EReal) (hC : ∀ e, Re (C e)) (hS : ∀ e, Re (S e)) :
    Ideal.ofBits FTy.f32 0x35000000#32 * ∑ e, C e * S e
      = Ideal.ofBits FTy.f32 0x42800000#32 * ∑ e, Ideal.div (Ideal.div (C e) (Ideal.ofBits FTy.f32 0x46000000#32))
          (Ideal.ofBits FTy.f32 0x40000000#32) * Ideal.div (S e) (Ideal.ofBits FTy.f32 0x46000000#32) := by
  choose c hc using hC
  choose s hs using hS
  rw [c64, c8192, c2, cscale]
  simp only [hc, hs, Ideal.div_coe (by norm_num : (8192 : ℝ) ≠ 0), Ideal.div_coe (by norm_num : (2 : ℝ) ≠ 0),
    ← EReal.coe_mul, sum_coe]
  congr 1
  rw [Finset.mul_sum, Finset.mul_sum]
  refine Finset.sum_congr rfl fun e _ => ?_
  ring

end Cert.Top2
-- ==== Proof.RingI.lean ====
/-
  The kernel's ring of two slots through which each grid point's block of `out` is written behind: the slots, their two
  column bands, the pieces of `out` the copies write, the semaphore cells, and the ring's families before a point.
-/
module

public import proofs.«01_k».proof.Proof.Gen.KernelIdeal.Frame
public import proofs.«01_k».proof.Proof.Gen.KernelIdeal.Skeleton
public import Idealize.ShloMosaic.Lib.Pipeline.FrameSuffixV
public import Idealize.ShloMosaic.Lib.Ring.WriteBehind
public import Idealize.ShloMosaic.Lib.VecWindow
public import Idealize.ShloMosaic.Lib.ValueLayout
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's with the transfers' counters. -/
local notation "𝕄" => MT nD τ sig Unit (Elt F) ℕ (Pipeline.UD sig nD τ) ℕ

instance : NeZero grid0.N := ⟨by rw [N_0]; decide⟩

/-! ## The slots, their bands, the pieces, the cells -/

/-- The scratch of two slots, the accumulator, the result left in HBM. -/
abbrev scM : Memref sig .tc .vmem S2x1024x2000 .f32 := Memref.whole cc0_scratch0
abbrev acM : Memref sig .tc .vmem S2x64 .f32 := Memref.whole cc0_scratch1
abbrev outMem : Memref sig .tc .hbm S8192x2000 .f32 := Memref.whole main_v0_0

theorem inb_slot (g : Fin 2) : ∀ a, (![g.val, 0, 0] : Fin 3 → Nat) a + S1x1024x2000.size a ≤ S2x1024x2000.size a := by
  have := g.isLt; intro a; fin_cases a <;> simp <;> omega
theorem inb_band0 (g : Fin 2) : ∀ a, (![g.val, 0, 0] : Fin 3 → Nat) a + S1x1024x1920.size a ≤ S2x1024x2000.size a := by
  have := g.isLt; intro a; fin_cases a <;> simp <;> omega
theorem inb_band1 (g : Fin 2) : ∀ a, (![g.val, 0, 1920] : Fin 3 → Nat) a + S1x1024x80.size a ≤ S2x1024x2000.size a := by
  have := g.isLt; intro a; fin_cases a <;> simp <;> omega
theorem inb_piece0 (u : Fin 8) : ∀ a, (![1024 * u.val, 0] : Fin 2 → Nat) a + S1024x1920.size a ≤ S8192x2000.size a := by
  have := u.isLt; intro a; fin_cases a <;> simp <;> omega
theorem inb_piece1 (u : Fin 8) : ∀ a, (![1024 * u.val, 1920] : Fin 2 → Nat) a + S1024x80.size a ≤ S8192x2000.size a := by
  have := u.isLt; intro a; fin_cases a <;> simp <;> omega
theorem inb_cell (g : Fin 2) : ∀ a, (![g.val] : Fin 1 → Nat) a + S1.size a ≤ S2.size a := by
  have := g.isLt; intro a; fin_cases a <;> simp <;> omega

/-- Slot `g` whole. -/
def slot (g : Fin 2) : Memref sig .tc .vmem S1x1024x2000 .f32 :=
  scM.slice (Rect.unit (s := S2x1024x2000) ![g.val, 0, 0] S1x1024x2000.size (inb_slot g)) (fun _ => rfl)
/-- Slot `g`'s first 1920 columns, -/
def band0 (g : Fin 2) : Memref sig .tc .vmem S1024x1920 .f32 :=
  (scM.slice (Rect.unit (s := S2x1024x2000) ![g.val, 0, 0] S1x1024x1920.size (inb_band0 g)) (fun _ => rfl)).squeeze S1024x1920 squeezes_S1x1024x1920_S1024x1920
/-- and its last 80. -/
def band1 (g : Fin 2) : Memref sig .tc .vmem S1024x80 .f32 :=
  (scM.slice (Rect.unit (s := S2x1024x2000) ![g.val, 0, 1920] S1x1024x80.size (inb_band1 g)) (fun _ => rfl)).squeeze S1024x80 squeezes_S1x1024x80_S1024x80
/-- Block `u` of the result: its first 1920 columns -/
def piece0 (u : Fin 8) : Memref sig .tc .hbm S1024x1920 .f32 :=
  outMem.slice (Rect.unit (s := S8192x2000) ![1024 * u.val, 0] S1024x1920.size (inb_piece0 u)) (fun _ => rfl)
/-- and its last 80. -/
def piece1 (u : Fin 8) : Memref sig .tc .hbm S1024x80 .f32 :=
  outMem.slice (Rect.unit (s := S8192x2000) ![1024 * u.val, 1920] S1024x80.size (inb_piece1 u)) (fun _ => rfl)
/-- The two cells of slot `g`. -/
def cell0 (g : Fin 2) : DmaSems sig S_ :=
  (cc0_scratch2.slice (Rect.unit (s := S2) ![g.val] S1.size (inb_cell g))).squeeze S_ squeezes_S1_S_
def cell1 (g : Fin 2) : DmaSems sig S_ :=
  (cc0_scratch3.slice (Rect.unit (s := S2) ![g.val] S1.size (inb_cell g))).squeeze S_ squeezes_S1_S_
abbrev cellR0 (g : Fin 2) : SemLoc sig := SemLoc.dma (cell0 g).sem
abbrev cellR1 (g : Fin 2) : SemLoc sig := SemLoc.dma (cell1 g).sem

theorem cellR0_0 : cellR0 0 = SemLoc.dma 8 := by decide
theorem cellR0_1 : cellR0 1 = SemLoc.dma 9 := by decide
theorem cellR1_0 : cellR1 0 = SemLoc.dma 10 := by decide
theorem cellR1_1 : cellR1 1 = SemLoc.dma 11 := by decide

/-! ## The program's operands at a point are these -/

theorem off6 : ∀ t : Fin grid0.N, k0_off6 (grid0.coords t) = ![(Ring.sl 2 t.val).val, 0, 0] := by decide +kernel
theorem off9 : ∀ t : Fin grid0.N, k0_off9 (grid0.coords t) = ![(Ring.sl 2 t.val).val, 0, 0] := by decide +kernel
theorem off11 : ∀ t : Fin grid0.N, k0_off11 (grid0.coords t) = ![(Ring.sl 2 t.val).val, 0, 1920] := by decide +kernel
theorem off8 : ∀ t : Fin grid0.N, k0_off8 (grid0.coords t) = ![1024 * (Ring.bk 8 t.val).val, 0] := by decide +kernel
theorem off10 : ∀ t : Fin grid0.N, k0_off10 (grid0.coords t) = ![1024 * (Ring.bk 8 t.val).val, 1920] := by decide +kernel
theorem off7 : ∀ t : Fin grid0.N, k0_off7 (grid0.coords t) = ![(Ring.sl 2 t.val).val] := by decide +kernel
theorem off1 : ∀ t : Fin grid0.N, k0_off1 (grid0.coords t) = ![(Ring.sl 2 t.val).val] := by decide +kernel
theorem off12 : ∀ t : Fin grid0.N, k0_off12 (grid0.coords t) = ![(Ring.sl 2 t.val).val] := by decide +kernel
theorem off17 : ∀ t : Fin grid0.N, k0_off17 (grid0.coords t) = ![(Ring.sl 2 (t.val + 1)).val] := by decide +kernel

/-- The word the first conditional tests. -/
theorem cond1_eq : ∀ t : Fin grid0.N, Scalar.cmpi .ne (Scalar.extui (Scalar.cmpi .eq (BitVec.ofNat 32 (grid0.coords t 0).val) 0#32 : BitVec 1) : BitVec 32) 0#32 = 1#1 ↔ t.val = 0 := by decide +kernel
theorem cond3_eq : ∀ t : Fin grid0.N, k0_cond3 (grid0.coords t) = 1#1 ↔ 2 ≤ t.val := by decide +kernel
theorem cond4_eq : ∀ t : Fin grid0.N, k0_cond4 (grid0.coords t) = 1#1 ↔ t.val = 7 := by decide +kernel
theorem cond2_eq : ∀ t : Fin grid0.N, k0_cond2 (grid0.coords t) = 1#1 ↔ t.val = 7 := by decide +kernel
theorem cond5_eq : ∀ t : Fin grid0.N, k0_cond5 (grid0.coords t) = 1#1 ↔ 1 ≤ t.val := by decide +kernel

/-- The body's box of the scratch at a point is slot `t mod 2`'s. -/
theorem slot_access (t : Fin grid0.N) (h) :
    ((Memref.whole cc0_scratch0 : Memref sig .tc .vmem S2x1024x2000 .f32).access (Rect.unit (s := S2x1024x2000) (k0_off6 (grid0.coords t)) S1x1024x2000.size h)).set = (slot (Ring.sl 2 t.val)).view.set := by
  unfold slot; revert h; rw [off6 t]; intro h; rfl

@[sl_canon] theorem canon_src0 (t : Fin grid0.N) (h) :
    ((Memref.whole cc0_scratch0).slice (Rect.unit (s := S2x1024x2000) (k0_off9 (grid0.coords t)) S1x1024x1920.size h) (fun _ => rfl)).squeeze S1024x1920 squeezes_S1x1024x1920_S1024x1920 = band0 (Ring.sl 2 t.val) := by
  revert h; rw [off9 t]; intro h; rfl
@[sl_canon] theorem canon_src0' (t : Fin grid0.N) (h) :
    ((Memref.whole cc0_scratch0).slice (Rect.unit (s := S2x1024x2000) (k0_off9 (grid0.coords t)) ![1, 1024, 1920] h) (fun _ => rfl)).squeeze S1024x1920 squeezes_S1x1024x1920_S1024x1920 = band0 (Ring.sl 2 t.val) :=
  canon_src0 t h
@[sl_canon] theorem canon_src1 (t : Fin grid0.N) (h) :
    ((Memref.whole cc0_scratch0).slice (Rect.unit (s := S2x1024x2000) (k0_off11 (grid0.coords t)) S1x1024x80.size h) (fun _ => rfl)).squeeze S1024x80 squeezes_S1x1024x80_S1024x80 = band1 (Ring.sl 2 t.val) := by
  revert h; rw [off11 t]; intro h; rfl
@[sl_canon] theorem canon_src1' (t : Fin grid0.N) (h) :
    ((Memref.whole cc0_scratch0).slice (Rect.unit (s := S2x1024x2000) (k0_off11 (grid0.coords t)) ![1, 1024, 80] h) (fun _ => rfl)).squeeze S1024x80 squeezes_S1x1024x80_S1024x80 = band1 (Ring.sl 2 t.val) :=
  canon_src1 t h
@[sl_canon] theorem canon_dst0 (t : Fin grid0.N) (h) :
    (Memref.whole main_v0_0).slice (Rect.unit (s := S8192x2000) (k0_off8 (grid0.coords t)) S1024x1920.size h) (fun _ => rfl) = piece0 (Ring.bk 8 t.val) := by
  revert h; rw [off8 t]; intro h; rfl
@[sl_canon] theorem canon_dst0' (t : Fin grid0.N) (h) :
    (Memref.whole main_v0_0).slice (Rect.unit (s := S8192x2000) (k0_off8 (grid0.coords t)) ![1024, 1920] h) (fun _ => rfl) = piece0 (Ring.bk 8 t.val) :=
  canon_dst0 t h
@[sl_canon] theorem canon_dst1 (t : Fin grid0.N) (h) :
    (Memref.whole main_v0_0).slice (Rect.unit (s := S8192x2000) (k0_off10 (grid0.coords t)) S1024x80.size h) (fun _ => rfl) = piece1 (Ring.bk 8 t.val) := by
  revert h; rw [off10 t]; intro h; rfl
@[sl_canon] theorem canon_dst1' (t : Fin grid0.N) (h) :
    (Memref.whole main_v0_0).slice (Rect.unit (s := S8192x2000) (k0_off10 (grid0.coords t)) ![1024, 80] h) (fun _ => rfl) = piece1 (Ring.bk 8 t.val) :=
  canon_dst1 t h
@[sl_canon] theorem canon_cell0 (t : Fin grid0.N) (h) :
    (cc0_scratch2.slice (Rect.unit (s := S2) (k0_off7 (grid0.coords t)) S1.size h)).squeeze S_ squeezes_S1_S_ = cell0 (Ring.sl 2 t.val) := by
  revert h; rw [off7 t]; intro h; rfl
@[sl_canon] theorem canon_cell0' (t : Fin grid0.N) (h) :
    (cc0_scratch2.slice (Rect.unit (s := S2) (k0_off7 (grid0.coords t)) ![1] h)).squeeze S_ squeezes_S1_S_ = cell0 (Ring.sl 2 t.val) :=
  canon_cell0 t h
@[sl_canon] theorem canon_cell1 (t : Fin grid0.N) (h) :
    (cc0_scratch3.slice (Rect.unit (s := S2) (k0_off7 (grid0.coords t)) S1.size h)).squeeze S_ squeezes_S1_S_ = cell1 (Ring.sl 2 t.val) := by
  revert h; rw [off7 t]; intro h; rfl
@[sl_canon] theorem canon_cell1' (t : Fin grid0.N) (h) :
    (cc0_scratch3.slice (Rect.unit (s := S2) (k0_off7 (grid0.coords t)) ![1] h)).squeeze S_ squeezes_S1_S_ = cell1 (Ring.sl 2 t.val) :=
  canon_cell1 t h
@[sl_canon] theorem canon_wcell0 (t : Fin grid0.N) (h) :
    (cc0_scratch2.slice (Rect.unit (s := S2) (k0_off1 (grid0.coords t)) S1.size h)).squeeze S_ squeezes_S1_S_ = cell0 (Ring.sl 2 t.val) := by
  revert h; rw [off1 t]; intro h; rfl
@[sl_canon] theorem canon_wcell0' (t : Fin grid0.N) (h) :
    (cc0_scratch2.slice (Rect.unit (s := S2) (k0_off1 (grid0.coords t)) ![1] h)).squeeze S_ squeezes_S1_S_ = cell0 (Ring.sl 2 t.val) :=
  canon_wcell0 t h
@[sl_canon] theorem canon_wcell1 (t : Fin grid0.N) (h) :
    (cc0_scratch3.slice (Rect.unit (s := S2) (k0_off1 (grid0.coords t)) S1.size h)).squeeze S_ squeezes_S1_S_ = cell1 (Ring.sl 2 t.val) := by
  revert h; rw [off1 t]; intro h; rfl
@[sl_canon] theorem canon_wcell1' (t : Fin grid0.N) (h) :
    (cc0_scratch3.slice (Rect.unit (s := S2) (k0_off1 (grid0.coords t)) ![1] h)).squeeze S_ squeezes_S1_S_ = cell1 (Ring.sl 2 t.val) :=
  canon_wcell1 t h
@[sl_canon] theorem canon_lcell0 (t : Fin grid0.N) (h) :
    (cc0_scratch2.slice (Rect.unit (s := S2) (k0_off12 (grid0.coords t)) S1.size h)).squeeze S_ squeezes_S1_S_ = cell0 (Ring.sl 2 t.val) := by
  revert h; rw [off12 t]; intro h; rfl
@[sl_canon] theorem canon_lcell0' (t : Fin grid0.N) (h) :
    (cc0_scratch2.slice (Rect.unit (s := S2) (k0_off12 (grid0.coords t)) ![1] h)).squeeze S_ squeezes_S1_S_ = cell0 (Ring.sl 2 t.val) :=
  canon_lcell0 t h
@[sl_canon] theorem canon_lcell1 (t : Fin grid0.N) (h) :
    (cc0_scratch3.slice (Rect.unit (s := S2) (k0_off12 (grid0.coords t)) S1.size h)).squeeze S_ squeezes_S1_S_ = cell1 (Ring.sl 2 t.val) := by
  revert h; rw [off12 t]; intro h; rfl
@[sl_canon] theorem canon_lcell1' (t : Fin grid0.N) (h) :
    (cc0_scratch3.slice (Rect.unit (s := S2) (k0_off12 (grid0.coords t)) ![1] h)).squeeze S_ squeezes_S1_S_ = cell1 (Ring.sl 2 t.val) :=
  canon_lcell1 t h
@[sl_canon] theorem canon_ocell0 (t : Fin grid0.N) (h) :
    (cc0_scratch2.slice (Rect.unit (s := S2) (k0_off17 (grid0.coords t)) S1.size h)).squeeze S_ squeezes_S1_S_ = cell0 (Ring.sl 2 (t.val + 1)) := by
  revert h; rw [off17 t]; intro h; rfl
@[sl_canon] theorem canon_ocell0' (t : Fin grid0.N) (h) :
    (cc0_scratch2.slice (Rect.unit (s := S2) (k0_off17 (grid0.coords t)) ![1] h)).squeeze S_ squeezes_S1_S_ = cell0 (Ring.sl 2 (t.val + 1)) :=
  canon_ocell0 t h
@[sl_canon] theorem canon_ocell1 (t : Fin grid0.N) (h) :
    (cc0_scratch3.slice (Rect.unit (s := S2) (k0_off17 (grid0.coords t)) S1.size h)).squeeze S_ squeezes_S1_S_ = cell1 (Ring.sl 2 (t.val + 1)) := by
  revert h; rw [off17 t]; intro h; rfl
@[sl_canon] theorem canon_ocell1' (t : Fin grid0.N) (h) :
    (cc0_scratch3.slice (Rect.unit (s := S2) (k0_off17 (grid0.coords t)) ![1] h)).squeeze S_ squeezes_S1_S_ = cell1 (Ring.sl 2 (t.val + 1)) :=
  canon_ocell1 t h

/-! ## The slots and the pieces as element sets -/

abbrev slotSet (g : Fin 2) : Finset S2x1024x2000.Idx := (Rect.unit (s := S2x1024x2000) ![g.val, 0, 0] S1x1024x2000.size (inb_slot g)).set
abbrev band0Set (g : Fin 2) : Finset S2x1024x2000.Idx := (Rect.unit (s := S2x1024x2000) ![g.val, 0, 0] S1x1024x1920.size (inb_band0 g)).set
abbrev band1Set (g : Fin 2) : Finset S2x1024x2000.Idx := (Rect.unit (s := S2x1024x2000) ![g.val, 0, 1920] S1x1024x80.size (inb_band1 g)).set
abbrev piece0Set (u : Fin 8) : Finset S8192x2000.Idx := (Rect.unit (s := S8192x2000) ![1024 * u.val, 0] S1024x1920.size (inb_piece0 u)).set
abbrev piece1Set (u : Fin 8) : Finset S8192x2000.Idx := (Rect.unit (s := S8192x2000) ![1024 * u.val, 1920] S1024x80.size (inb_piece1 u)).set

theorem slot_set (g : Fin 2) : (slot g).view.set = slotSet g := View.set_slice_whole _ _
theorem band0_set (g : Fin 2) : (band0 g).view.set = band0Set g := by
  simp only [band0, Memref.view_squeeze, View.set_reshape]; exact View.set_slice_whole _ _
theorem band1_set (g : Fin 2) : (band1 g).view.set = band1Set g := by
  simp only [band1, Memref.view_squeeze, View.set_reshape]; exact View.set_slice_whole _ _
theorem piece0_set (u : Fin 8) : (piece0 u).view.set = piece0Set u := View.set_slice_whole _ _
theorem piece1_set (u : Fin 8) : (piece1 u).view.set = piece1Set u := View.set_slice_whole _ _

theorem bands_disjoint (g : Fin 2) : Disjoint (band0Set g) (band1Set g) :=
  Rect.unit_disjoint (2 : Fin 3) (.inl (by show 0 + 1920 ≤ 1920; omega))
theorem pieces_disjoint (u : Fin 8) : Disjoint (piece0Set u) (piece1Set u) :=
  Rect.unit_disjoint (1 : Fin 2) (.inl (by show 0 + 1920 ≤ 1920; omega))

theorem bands_cover (g : Fin 2) : band0Set g ∪ band1Set g = slotSet g := by
  ext y
  have h2 := (y 2).isLt
  rw [Finset.mem_union, Rect.mem_set_unit, Rect.mem_set_unit, Rect.mem_set_unit]
  constructor
  · rintro (h | h) a <;> have := h a <;> revert this <;> fin_cases a <;> simp [Shape.size] <;> omega
  · intro h
    have a0 := h 0; have a1 := h 1; have a2 := h 2
    by_cases hc : (y 2).val < 1920
    · refine .inl fun a => ?_
      fin_cases a
      · exact a0
      · exact a1
      · exact ⟨Nat.zero_le _, by show (y 2).val < 0 + 1920; omega⟩
    · refine .inr fun a => ?_
      fin_cases a
      · exact a0
      · exact a1
      · exact ⟨by show 1920 ≤ (y 2).val; omega, by show (y 2).val < 1920 + 80; exact h2⟩

/-- Block `u`'s rows of the result, all its columns. -/
def rowSet (u : Fin 8) : Finset S8192x2000.Idx := piece0Set u ∪ piece1Set u

theorem mem_rowSet (u : Fin 8) (y : S8192x2000.Idx) : y ∈ rowSet u ↔ (y 0).val / 1024 = u.val := by
  have h1 := (y 1).isLt
  unfold rowSet
  rw [Finset.mem_union, Rect.mem_set_unit, Rect.mem_set_unit]
  constructor
  · have key : (1024 * u.val ≤ (y 0).val ∧ (y 0).val < 1024 * u.val + 1024) → (y 0).val / 1024 = u.val := by omega
    rintro (h | h) <;> exact key (h 0)
  · intro h
    have key : 1024 * u.val ≤ (y 0).val ∧ (y 0).val < 1024 * u.val + 1024 := by omega
    by_cases hc : (y 1).val < 1920
    · refine .inl fun a => ?_
      fin_cases a
      · exact key
      · exact ⟨Nat.zero_le _, by show (y 1).val < 0 + 1920; omega⟩
    · refine .inr fun a => ?_
      fin_cases a
      · exact key
      · exact ⟨by show 1920 ≤ (y 1).val; omega, by show (y 1).val < 1920 + 80; exact h1⟩

theorem rows_disjoint : ∀ u ∈ (Finset.univ : Finset (Fin 8)), ∀ u' ∈ (Finset.univ : Finset (Fin 8)), u ≠ u' → Disjoint (rowSet u) (rowSet u') := by
  intro u _ u' _ h
  refine Finset.disjoint_left.mpr fun y hy hy' => h (Fin.ext ?_)
  rw [mem_rowSet] at hy hy'; omega

theorem rows_cover : (Finset.univ : Finset (Fin 8)).biUnion rowSet = Finset.univ := by
  ext y
  have h0 : (y 0).val < 8192 := (y 0).isLt
  simp only [Finset.mem_biUnion, Finset.mem_univ, true_and, iff_true]
  exact ⟨⟨(y 0).val / 1024, by omega⟩, (mem_rowSet _ _).mpr rfl⟩

theorem slots_disjoint : Disjoint (slotSet 0) (slotSet 1) :=
  Rect.unit_disjoint (0 : Fin 3) (.inl (by show 0 + 1 ≤ 1; omega))

theorem slots_cover : slotSet 0 ∪ slotSet 1 = Finset.univ := by
  ext y
  have h0 : (y 0).val < 2 := (y 0).isLt
  have h1 : (y 1).val < 1024 := (y 1).isLt
  have h2 : (y 2).val < 2000 := (y 2).isLt
  rw [Finset.mem_union, Rect.mem_set_unit, Rect.mem_set_unit]
  simp only [Finset.mem_univ, iff_true]
  by_cases hc : (y 0).val = 0
  · refine .inl fun a => ?_
    fin_cases a
    · exact ⟨Nat.zero_le _, by show (y 0).val < 0 + 1; omega⟩
    · exact ⟨Nat.zero_le _, by show (y 1).val < 0 + 1024; omega⟩
    · exact ⟨Nat.zero_le _, by show (y 2).val < 0 + 2000; omega⟩
  · refine .inr fun a => ?_
    fin_cases a
    · exact ⟨by show 1 ≤ (y 0).val; omega, by show (y 0).val < 1 + 1; omega⟩
    · exact ⟨Nat.zero_le _, by show (y 1).val < 0 + 1024; omega⟩
    · exact ⟨Nat.zero_le _, by show (y 2).val < 0 + 2000; omega⟩

/-! ## What is held -/

section Held
variable (c : Dev nD)

abbrev SlotBuf := Buf (Elt F) ((c : Thread nD τ).loc cc0_scratch0)
abbrev OutBuf := Buf (Elt F) ((c : Thread nD τ).loc main_v0_0)

abbrev slotP (g : Fin 2) (e : SlotBuf (F := F) c) : sProp 𝕄 := (slot g).view.loc (c : Thread nD τ) ↦[(slot g).view.set]{fullShare} e
abbrev band0P (g : Fin 2) (e : SlotBuf (F := F) c) : sProp 𝕄 := (band0 g).view.loc (c : Thread nD τ) ↦[(band0 g).view.set]{fullShare} e
abbrev band1P (g : Fin 2) (e : SlotBuf (F := F) c) : sProp 𝕄 := (band1 g).view.loc (c : Thread nD τ) ↦[(band1 g).view.set]{fullShare} e
abbrev piece0P (u : Fin 8) (f : OutBuf (F := F) c) : sProp 𝕄 := (piece0 u).view.loc (c : Thread nD τ) ↦[(piece0 u).view.set]{fullShare} f
abbrev piece1P (u : Fin 8) (f : OutBuf (F := F) c) : sProp 𝕄 := (piece1 u).view.loc (c : Thread nD τ) ↦[(piece1 u).view.set]{fullShare} f

theorem slotP_eq (g : Fin 2) (e) : slotP (F := F) c g e = (((c : Thread nD τ).loc cc0_scratch0) ↦[slotSet g]{fullShare} e : sProp 𝕄) := by
  unfold slotP; rw [slot_set]; rfl
theorem band0P_eq (g : Fin 2) (e) : band0P (F := F) c g e = (((c : Thread nD τ).loc cc0_scratch0) ↦[band0Set g]{fullShare} e : sProp 𝕄) := by
  unfold band0P; rw [band0_set]; rfl
theorem band1P_eq (g : Fin 2) (e) : band1P (F := F) c g e = (((c : Thread nD τ).loc cc0_scratch0) ↦[band1Set g]{fullShare} e : sProp 𝕄) := by
  unfold band1P; rw [band1_set]; rfl
theorem piece0P_eq (u : Fin 8) (f) : piece0P (F := F) c u f = (((c : Thread nD τ).loc main_v0_0) ↦[piece0Set u]{fullShare} f : sProp 𝕄) := by
  unfold piece0P; rw [piece0_set]; rfl
theorem piece1P_eq (u : Fin 8) (f) : piece1P (F := F) c u f = (((c : Thread nD τ).loc main_v0_0) ↦[piece1Set u]{fullShare} f : sProp 𝕄) := by
  unfold piece1P; rw [piece1_set]; rfl

/-- A slot is its two bands; -/
theorem slot_split (g : Fin 2) (e : SlotBuf (F := F) c) : slotP (F := F) c g e ⊢ iprop(band0P (F := F) c g e ∗ band1P (F := F) c g e) := by
  rw [slotP_eq, band0P_eq, band1P_eq, ← bands_cover]
  exact (pointsTo_union (bands_disjoint g)).1
/-- and they join, each at contents of its own. -/
theorem slot_join (g : Fin 2) (e e' : SlotBuf (F := F) c) : iprop(band0P (F := F) c g e ∗ band1P (F := F) c g e') ⊢ iprop(∃ d, slotP (F := F) c g d) := by
  iintro H
  iexists _
  rw [slotP_eq, band0P_eq, band1P_eq, ← bands_cover]
  iapply (pointsTo_join (bands_disjoint g))
  iexact H

/-- The result whole is its blocks' pieces, -/
theorem out_split (f : OutBuf (F := F) c) :
    (((c : Thread nD τ).loc main_v0_0) ↦{fullShare} f : sProp 𝕄) = bigSep Finset.univ fun u : Fin 8 => iprop(piece0P (F := F) c u f ∗ piece1P (F := F) c u f) := by
  show (((c : Thread nD τ).loc main_v0_0) ↦[Finset.univ]{fullShare} f : sProp 𝕄) = _
  rw [← rows_cover]
  refine (pointsTo_biUnion (ℓ := (c : Thread nD τ).loc main_v0_0) (q := fullShare) (f := f) (Ix := Unit) (Name := ℕ) (U := Pipeline.UD sig nD τ) (Lvl := ℕ)
    Finset.univ rowSet rows_disjoint).trans ?_
  refine congrArg (bigSep Finset.univ) (funext fun u => ?_)
  rw [piece0P_eq, piece1P_eq]
  have h := pointsTo_union (ℓ := (c : Thread nD τ).loc main_v0_0) (q := fullShare) (f := f) (Ix := Unit) (Name := ℕ) (U := Pipeline.UD sig nD τ) (Lvl := ℕ) (pieces_disjoint u)
  exact BI.equiv_iff.mp ⟨h.1, h.2⟩

/-- The scratch whole is its two slots, -/
theorem sc_split (e : SlotBuf (F := F) c) :
    (((c : Thread nD τ).loc cc0_scratch0) ↦{fullShare} e : sProp 𝕄) ⊢ iprop(slotP (F := F) c 0 e ∗ slotP (F := F) c 1 e) := by
  show (((c : Thread nD τ).loc cc0_scratch0) ↦[Finset.univ]{fullShare} e : sProp 𝕄) ⊢ _
  rw [← slots_cover, slotP_eq, slotP_eq]
  exact (pointsTo_union slots_disjoint).1
theorem sc_join (e e' : SlotBuf (F := F) c) :
    iprop(slotP (F := F) c 0 e ∗ slotP (F := F) c 1 e') ⊢ (iprop(∃ d, ((c : Thread nD τ).loc cc0_scratch0) ↦{fullShare} d) : sProp 𝕄) := by
  iintro H
  iexists _
  show _ ⊢ (((c : Thread nD τ).loc cc0_scratch0) ↦[Finset.univ]{fullShare} _ : sProp 𝕄)
  rw [← slots_cover, slotP_eq, slotP_eq]
  exact pointsTo_join slots_disjoint

end Held

/-! ## What the bands and the pieces read -/

open Idealize.ShloMosaic.ValueIdx

theorem band0_read (g : Fin 2) (e : S2x1024x2000.Idx → Elt F .f32) (r : Fin 1024) (j : Fin 1920) :
    (band0 g).view.read (Elt F) e (ix2 r j) = (slot g).view.read (Elt F) e (ix3 0 r ⟨j.val, by omega⟩) := by
  refine (congrArg (fun y => e ((Rect.unit (s := S2x1024x2000) ![g.val, 0, 0] S1x1024x1920.size (inb_band0 g)).emb y))
    (reshapeEquiv_ix2_1ab squeezes_S1x1024x1920_S1024x1920.numel_eq r j)).trans (congrArg e (funext fun a => Fin.ext ?_))
  fin_cases a <;> rfl
theorem band1_read (g : Fin 2) (e : S2x1024x2000.Idx → Elt F .f32) (r : Fin 1024) (j : Fin 80) :
    (band1 g).view.read (Elt F) e (ix2 r j) = (slot g).view.read (Elt F) e (ix3 0 r ⟨1920 + j.val, by omega⟩) := by
  refine (congrArg (fun y => e ((Rect.unit (s := S2x1024x2000) ![g.val, 0, 1920] S1x1024x80.size (inb_band1 g)).emb y))
    (reshapeEquiv_ix2_1ab squeezes_S1x1024x80_S1024x80.numel_eq r j)).trans (congrArg e (funext fun a => Fin.ext ?_))
  fin_cases a
  · rfl
  · rfl
  · show 1920 + 1 * j.val = 0 + 1 * (1920 + j.val); omega
theorem piece0_read (u : Fin 8) (f : S8192x2000.Idx → Elt F .f32) (r : Fin 1024) (j : Fin 1920) :
    (piece0 u).view.read (Elt F) f (ix2 r j) = f (ix2 ⟨1024 * u.val + r.val, by omega⟩ ⟨j.val, by omega⟩) := by
  refine congrArg f (funext fun a => Fin.ext ?_)
  fin_cases a
  · show 1024 * u.val + 1 * r.val = 1024 * u.val + r.val; omega
  · show 0 + 1 * j.val = j.val; omega
theorem piece1_read (u : Fin 8) (f : S8192x2000.Idx → Elt F .f32) (r : Fin 1024) (j : Fin 80) :
    (piece1 u).view.read (Elt F) f (ix2 r j) = f (ix2 ⟨1024 * u.val + r.val, by omega⟩ ⟨1920 + j.val, by omega⟩) := by
  refine congrArg f (funext fun a => Fin.ext ?_)
  fin_cases a
  · show 1024 * u.val + 1 * r.val = 1024 * u.val + r.val; omega
  · show 1920 + 1 * j.val = 1920 + j.val; omega

/-- A block's first 1920 columns, its last 80. -/
def cols0 (Y : S1x1024x2000.Idx → Elt F .f32) : S1024x1920.Idx → Elt F .f32 :=
  fun x => Y (ix3 0 (x 0) ⟨(x 1).val, Nat.lt_of_lt_of_le (x 1).isLt (by decide)⟩)
def cols1 (Y : S1x1024x2000.Idx → Elt F .f32) : S1024x80.Idx → Elt F .f32 :=
  fun x => Y (ix3 0 (x 0) ⟨1920 + (x 1).val, Nat.add_lt_add_left (x 1).isLt 1920⟩)

theorem idx2_eta {n0 n1 : Nat} (x : (⟨2, ![n0, n1]⟩ : Shape).Idx) : x = ix2 (x 0) (x 1) := by
  funext a; fin_cases a <;> rfl

/-- Once a slot holds a block, its bands hold the block's. -/
theorem band0_of_slot (g : Fin 2) (e : S2x1024x2000.Idx → Elt F .f32) (Y) (h : (slot g).view.read (Elt F) e = Y) :
    (band0 g).view.read (Elt F) e = cols0 Y := by
  funext x; exact (congrArg _ (idx2_eta x)).trans ((band0_read g e (x 0) (x 1)).trans (congrFun h _))
theorem band1_of_slot (g : Fin 2) (e : S2x1024x2000.Idx → Elt F .f32) (Y) (h : (slot g).view.read (Elt F) e = Y) :
    (band1 g).view.read (Elt F) e = cols1 Y := by
  funext x; exact (congrArg _ (idx2_eta x)).trans ((band1_read g e (x 0) (x 1)).trans (congrFun h _))

/-- The whole result from its blocks: row `r` is row `r mod 1024` of block `r / 1024`. -/
def assemble (Y : Fin 8 → S1x1024x2000.Idx → Elt F .f32) : S8192x2000.Idx → Elt F .f32 :=
  fun y => Y ⟨(y 0).val / 1024, by have : (y 0).val < 8192 := (y 0).isLt; omega⟩ (ix3 0 ⟨(y 0).val % 1024, Nat.mod_lt _ (by decide)⟩ (y 1))

theorem assemble_at (Y : Fin 8 → S1x1024x2000.Idx → Elt F .f32) (u : Fin 8) (r : Fin 1024) (j : Fin 2000) :
    assemble Y (ix2 ⟨1024 * u.val + r.val, by omega⟩ j) = Y u (ix3 0 r j) := by
  unfold assemble
  have e1 : (1024 * u.val + r.val) / 1024 = u.val := by omega
  have e2 : (1024 * u.val + r.val) % 1024 = r.val := by omega
  have h1 : ∀ (h : (1024 * u.val + r.val) / 1024 < 8), (⟨(1024 * u.val + r.val) / 1024, h⟩ : Fin 8) = u := fun _ => Fin.ext e1
  have h2 : ∀ (h : (1024 * u.val + r.val) % 1024 < 1024), (⟨(1024 * u.val + r.val) % 1024, h⟩ : Fin 1024) = r := fun _ => Fin.ext e2
  show Y ⟨(1024 * u.val + r.val) / 1024, _⟩ (ix3 0 ⟨(1024 * u.val + r.val) % 1024, _⟩ j) = _
  rw [h1, h2]

/-- A piece that reads the block's columns agrees with the assembled result on its elements. -/
theorem piece0_agree (u : Fin 8) (f : S8192x2000.Idx → Elt F .f32) (Y : Fin 8 → S1x1024x2000.Idx → Elt F .f32)
    (h : (piece0 u).view.read (Elt F) f = cols0 (Y u)) : ∀ i ∈ piece0Set u, f i = assemble Y i := by
  intro i hi
  rw [Rect.mem_set_unit] at hi
  have b0 : 1024 * u.val ≤ (i 0).val ∧ (i 0).val < 1024 * u.val + 1024 := hi 0
  have b1 : (i 1).val < 0 + 1920 := (hi 1).2
  have hi' : i = ix2 ⟨1024 * u.val + ((i 0).val - 1024 * u.val), by omega⟩ ⟨(i 1).val, by omega⟩ := by
    refine (idx2_eta i).trans (congrArg₂ ix2 (Fin.ext ?_) rfl); show (i 0).val = _; simp only; omega
  rw [hi']
  have key := congrFun h (ix2 ⟨(i 0).val - 1024 * u.val, by omega⟩ ⟨(i 1).val, by omega⟩)
  rw [piece0_read] at key
  exact key.trans (assemble_at Y u ⟨(i 0).val - 1024 * u.val, by omega⟩ ⟨(i 1).val, by omega⟩).symm
theorem piece1_agree (u : Fin 8) (f : S8192x2000.Idx → Elt F .f32) (Y : Fin 8 → S1x1024x2000.Idx → Elt F .f32)
    (h : (piece1 u).view.read (Elt F) f = cols1 (Y u)) : ∀ i ∈ piece1Set u, f i = assemble Y i := by
  intro i hi
  rw [Rect.mem_set_unit] at hi
  have b0 : 1024 * u.val ≤ (i 0).val ∧ (i 0).val < 1024 * u.val + 1024 := hi 0
  have b1 : 1920 ≤ (i 1).val ∧ (i 1).val < 1920 + 80 := hi 1
  have hi' : i = ix2 ⟨1024 * u.val + ((i 0).val - 1024 * u.val), by omega⟩ ⟨1920 + ((i 1).val - 1920), by omega⟩ := by
    refine (idx2_eta i).trans (congrArg₂ ix2 (Fin.ext ?_) (Fin.ext ?_))
    · show (i 0).val = _; simp only; omega
    · show (i 1).val = _; simp only; omega
  rw [hi']
  have key := congrFun h (ix2 ⟨(i 0).val - 1024 * u.val, by omega⟩ ⟨(i 1).val - 1920, by omega⟩)
  rw [piece1_read] at key
  exact key.trans (assemble_at Y u ⟨(i 0).val - 1024 * u.val, by omega⟩ ⟨1920 + ((i 1).val - 1920), by omega⟩).symm

end Cert.KernelIdeal.Hand

end
-- ==== Proof.BodyI.lean ====
/-
  The kernel's body at a grid point, run: what it leaves in each window, the accumulator, the ring. Four cases: the first
  point (the accumulator is cleared), the second, the points that first wait for the copies two points back, the last point
  (which also writes the auxiliary loss and waits for every copy still in flight).
-/
module

public import proofs.«01_k».proof.Proof.RingI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's with the transfers' counters. -/
local notation "𝕄" => MT nD τ sig Unit (Elt F) ℕ (Pipeline.UD sig nD τ) ℕ

/-! ## A point's values -/

/-- The block of the result a point computes. -/
def blkOut (X1 : Vec F S1024x2048 .f32) (X2 : Vec F S2048x64 .f32) (X3 : Vec F S64x2000 .f32) (X4 : Vec F S1x2000 .f32) : Vec F S1x1024x2000 .f32 :=
  k0_pay12 (k0_pay1 X1 X2) X3 X4
/-- The accumulator after a point. -/
def accStep (X1 : Vec F S1024x2048 .f32) (X2 : Vec F S2048x64 .f32) (A : Vec F S2x64 .f32) : Vec F S2x64 .f32 :=
  k0_pay10 (k0_pay1 X1 X2) (k0_pay5 X1 X2) (k0_pay7 X1 X2) A
/-- The auxiliary loss, written at the last point. -/
def auxOut (X1 : Vec F S1024x2048 .f32) (X2 : Vec F S2048x64 .f32) (A : Vec F S2x64 .f32) : Vec F S1x1 .f32 :=
  k0_pay11 (k0_pay1 X1 X2) (k0_pay5 X1 X2) (k0_pay7 X1 X2) A

/-! ## The ring's members -/

section Members
variable (c : Dev nD)

/-- A copy of a slot's band in flight, whose piece will hold the block `Y`'s columns. -/
def FL0 (g : Fin 2) (u : Fin 8) (Y : Vec F S1x1024x2000 .f32) : sProp 𝕄 :=
  iprop(∃ f e, ⌜(piece0 u).view.read (Elt F) f = cols0 Y⌝
    ∗ Transfers.Flight countersEmb (c : Thread nD τ) (cellR0 g) default 245760 iprop(piece0P (F := F) c u f ∗ band0P (F := F) c g e))
def FL1 (g : Fin 2) (u : Fin 8) (Y : Vec F S1x1024x2000 .f32) : sProp 𝕄 :=
  iprop(∃ f e, ⌜(piece1 u).view.read (Elt F) f = cols1 Y⌝
    ∗ Transfers.Flight countersEmb (c : Thread nD τ) (cellR1 g) default 16384 iprop(piece1P (F := F) c u f ∗ band1P (F := F) c g e))
/-- A piece written. -/
def DN0 (u : Fin 8) (Y : Vec F S1x1024x2000 .f32) : sProp 𝕄 := iprop(∃ f, ⌜(piece0 u).view.read (Elt F) f = cols0 Y⌝ ∗ piece0P (F := F) c u f)
def DN1 (u : Fin 8) (Y : Vec F S1x1024x2000 .f32) : sProp 𝕄 := iprop(∃ f, ⌜(piece1 u).view.read (Elt F) f = cols1 Y⌝ ∗ piece1P (F := F) c u f)
/-- A slot at rest. -/
def REST (g : Fin 2) : sProp 𝕄 :=
  iprop(semVal ((c : Thread nD τ), cellR0 g) 0 ∗ semVal ((c : Thread nD τ), cellR1 g) 0 ∗ ∃ e, slotP (F := F) c g e)
/-- A block's pieces not yet written. -/
def TODO (u : Fin 8) : sProp 𝕄 := iprop((∃ f, piece0P (F := F) c u f) ∗ ∃ f, piece1P (F := F) c u f)

end Members

/-- A slot holds the block stored into it. -/
theorem slot_stored (t : Fin grid0.N) (h) (es : S2x1024x2000.Idx → Elt F .f32) (Y : Vec F S1x1024x2000 .f32) :
    (slot (Ring.sl 2 t.val)).view.read (Elt F)
      (View.write (Elt F) ((Memref.whole cc0_scratch0 : Memref sig .tc .vmem S2x1024x2000 .f32).access (Rect.unit (s := S2x1024x2000) (k0_off6 (grid0.coords t)) S1x1024x2000.size h)) es Y Finset.univ) = Y := by
  revert h; rw [off6 t]; intro h
  exact View.read_write_univ _ _

/-- The first point. -/
theorem run_first (c : Dev nD) (t : Fin grid0.N) (ht : t.val = 0)
    (arg1 : Memref sig .tc .vmem S1024x2048 .f32) (h1 : arg1.IsWhole) (arg2 : Memref sig .tc .vmem S2048x64 .f32) (h2 : arg2.IsWhole)
    (arg3 : Memref sig .tc .vmem S64x2000 .f32) (h3 : arg3.IsWhole) (arg4 : Memref sig .tc .vmem S1x2000 .f32) (h4 : arg4.IsWhole)
    (arg6 : Memref sig .tc .vmem S1x1 .f32) (h6 : arg6.IsWhole) (arg7 : Memref sig .tc .vmem S1024x2 .i32) (h7 : arg7.IsWhole)
    (X1 : Vec F S1024x2048 .f32) (X2 : Vec F S2048x64 .f32) (X3 : Vec F S64x2000 .f32) (X4 : Vec F S1x2000 .f32)
    (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4
      ∗ (∃ d, owns (c : Thread nD τ) arg7 fullShare d) ∗ (∃ d, owns (c : Thread nD τ) acM fullShare d)
      ∗ TODO (F := F) c (Ring.bk 8 t.val) ∗ REST (F := F) c (Ring.sl 2 t.val) ∗ owes (c : Thread nD τ) 0 W
      ∗ (iprop(owns (c : Thread nD τ) arg1 fullShare X1 ∗ owns (c : Thread nD τ) arg2 fullShare X2 ∗ owns (c : Thread nD τ) arg3 fullShare X3 ∗ owns (c : Thread nD τ) arg4 fullShare X4
          ∗ owns (c : Thread nD τ) arg7 fullShare (k0_pay6 X1 X2) ∗ owns (c : Thread nD τ) acM fullShare (accStep X1 X2 k0_pay8)
          ∗ FL0 (F := F) c (Ring.sl 2 t.val) (Ring.bk 8 t.val) (blkOut X1 X2 X3 X4) ∗ FL1 (F := F) c (Ring.sl 2 t.val) (Ring.bk 8 t.val) (blkOut X1 X2 X3 X4) ∗ (∃ W', owes (c : Thread nD τ) 0 W')) -∗ K ⟨⟩))
    ⊢ wp frame (wpE (defs₀ (F := F)) Variants.none c none) Set.univ
        (cc0__fused_kernel (grid0.coords t) arg1 h1 arg2 h2 arg3 h3 arg4 h4 (Memref.whole main_v0_0) (Memref.isWhole_whole _) arg6 h6 arg7 h7
          (Memref.whole cc0_scratch0) (Memref.isWhole_whole _) (Memref.whole cc0_scratch1) (Memref.isWhole_whole _) cc0_scratch2 cc0_scratch3) K := by
  have hc1 : Scalar.cmpi .ne (Scalar.extui (Scalar.cmpi .eq (BitVec.ofNat 32 (grid0.coords t 0).val) 0#32 : BitVec 1) : BitVec 32) 0#32 = 1#1 := by rw [cond1_eq]; omega
  have hc2 : ¬ k0_cond2 (grid0.coords t) = 1#1 := by rw [cond2_eq]; omega
  have hc3 : ¬ k0_cond3 (grid0.coords t) = 1#1 := by rw [cond3_eq]; omega
  have hc4 : ¬ k0_cond4 (grid0.coords t) = 1#1 := by rw [cond4_eq]; omega
  have hin : ((Memref.whole cc0_scratch0 : Memref sig .tc .vmem S2x1024x2000 .f32).access (Rect.unit (s := S2x1024x2000) (k0_off6 (grid0.coords t)) S1x1024x2000.size (k0_off6_inb _))).set ⊆ (slot (Ring.sl 2 t.val)).view.set := (slot_access t _).subset
  simp only [cc0__fused_kernel_eq_skeleton]
  unfold cc0__fused_kernel_skel
  simp only [k0_part1_eq_skeleton, k0_part2_eq_skeleton]
  unfold k0_part1_skel k0_part2_skel
  unfold owns TODO FL0 FL1 REST
  iintro ⟨⟨%f1, %hf1, H1⟩, ⟨%f2, %hf2, H2⟩, ⟨%f3, %hf3, H3⟩, ⟨%f4, %hf4, H4⟩, ⟨%d7, %f7, -, H7⟩, ⟨%da, %fa, -, Ha⟩, ⟨⟨%fo0, Ho0⟩, ⟨%fo1, Ho1⟩⟩, ⟨Hq0, Hq1, ⟨%es, HS⟩⟩, HW, Hk⟩
  have e1 := (View.readAt_full arg1.view f1 inb_S1024x2048_S1024x2048_0_0).trans hf1
  have e2 := (View.readAt_full arg2.view f2 inb_S2048x64_S2048x64_0_0).trans hf2
  have e3 := (View.readAt_full arg3.view f3 inb_S64x2000_S64x2000_0_0).trans hf3
  have e4 := (View.readAt_full arg4.view f4 inb_S1x2000_S1x2000_0_0).trans hf4
  sl_exec
  ihave HT := (slot_split (F := F) c (Ring.sl 2 t.val) _) $$ [HS]
  · iexact HS
  icases HT with ⟨Hb0, Hb1⟩
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H7]
  · iexists _; isplitr; swap; · iexact H7
    ipureintro; exact View.read_writes_full _ _ _ _ _
  isplitl [Ha]
  · iexists _; isplitr; swap; · iexact Ha
    ipureintro; refine (View.read_writes_full _ _ _ _ _).trans ?_; unfold run_first.sl.v53 accStep; dsimp only; refine congrArg (k0_pay10 (k0_pay1 X1 X2) (k0_pay5 X1 X2) (k0_pay7 X1 X2)) ?_; unfold run_first.sl.Ha_1; exact View.readCov_full _ inb_S2x64_S2x64_0_0 inb_S2x64_S2x64_0_0 _ _
  isplitl [Hq0]
  · iexists _, _; isplitr; swap; · iexact Hq0
    ipureintro; refine (View.read_writes_whole _ _ _).trans ?_; unfold run_first.sl.dma0 run_first.sl.HS_w1; change (band0 _).view.read (Elt F) _ = _; exact (band0_of_slot _ _ _ (slot_stored t _ es (blkOut X1 X2 X3 X4)))
  isplitl [Hq1]
  · iexists _, _; isplitr; swap; · iexact Hq1
    ipureintro; refine (View.read_writes_whole _ _ _).trans ?_; exact (band1_of_slot _ _ _ (slot_stored t _ es (blkOut X1 X2 X3 X4)))
  iexists _; iexact HW

/-- The second point. -/
theorem run_second (c : Dev nD) (t : Fin grid0.N) (ht : t.val = 1)
    (arg1 : Memref sig .tc .vmem S1024x2048 .f32) (h1 : arg1.IsWhole) (arg2 : Memref sig .tc .vmem S2048x64 .f32) (h2 : arg2.IsWhole)
    (arg3 : Memref sig .tc .vmem S64x2000 .f32) (h3 : arg3.IsWhole) (arg4 : Memref sig .tc .vmem S1x2000 .f32) (h4 : arg4.IsWhole)
    (arg6 : Memref sig .tc .vmem S1x1 .f32) (h6 : arg6.IsWhole) (arg7 : Memref sig .tc .vmem S1024x2 .i32) (h7 : arg7.IsWhole)
    (X1 : Vec F S1024x2048 .f32) (X2 : Vec F S2048x64 .f32) (X3 : Vec F S64x2000 .f32) (X4 : Vec F S1x2000 .f32)
    (A : Vec F S2x64 .f32) (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4
      ∗ (∃ d, owns (c : Thread nD τ) arg7 fullShare d) ∗ owns (c : Thread nD τ) acM fullShare A
      ∗ TODO (F := F) c (Ring.bk 8 t.val) ∗ REST (F := F) c (Ring.sl 2 t.val) ∗ owes (c : Thread nD τ) 0 W
      ∗ (iprop(owns (c : Thread nD τ) arg1 fullShare X1 ∗ owns (c : Thread nD τ) arg2 fullShare X2 ∗ owns (c : Thread nD τ) arg3 fullShare X3 ∗ owns (c : Thread nD τ) arg4 fullShare X4
          ∗ owns (c : Thread nD τ) arg7 fullShare (k0_pay6 X1 X2) ∗ owns (c : Thread nD τ) acM fullShare (accStep X1 X2 A)
          ∗ FL0 (F := F) c (Ring.sl 2 t.val) (Ring.bk 8 t.val) (blkOut X1 X2 X3 X4) ∗ FL1 (F := F) c (Ring.sl 2 t.val) (Ring.bk 8 t.val) (blkOut X1 X2 X3 X4) ∗ (∃ W', owes (c : Thread nD τ) 0 W')) -∗ K ⟨⟩))
    ⊢ wp frame (wpE (defs₀ (F := F)) Variants.none c none) Set.univ
        (cc0__fused_kernel (grid0.coords t) arg1 h1 arg2 h2 arg3 h3 arg4 h4 (Memref.whole main_v0_0) (Memref.isWhole_whole _) arg6 h6 arg7 h7
          (Memref.whole cc0_scratch0) (Memref.isWhole_whole _) (Memref.whole cc0_scratch1) (Memref.isWhole_whole _) cc0_scratch2 cc0_scratch3) K := by
  have hc1 : ¬ Scalar.cmpi .ne (Scalar.extui (Scalar.cmpi .eq (BitVec.ofNat 32 (grid0.coords t 0).val) 0#32 : BitVec 1) : BitVec 32) 0#32 = 1#1 := by rw [cond1_eq]; omega
  have hc2 : ¬ k0_cond2 (grid0.coords t) = 1#1 := by rw [cond2_eq]; omega
  have hc3 : ¬ k0_cond3 (grid0.coords t) = 1#1 := by rw [cond3_eq]; omega
  have hc4 : ¬ k0_cond4 (grid0.coords t) = 1#1 := by rw [cond4_eq]; omega
  have hin : ((Memref.whole cc0_scratch0 : Memref sig .tc .vmem S2x1024x2000 .f32).access (Rect.unit (s := S2x1024x2000) (k0_off6 (grid0.coords t)) S1x1024x2000.size (k0_off6_inb _))).set ⊆ (slot (Ring.sl 2 t.val)).view.set := (slot_access t _).subset
  simp only [cc0__fused_kernel_eq_skeleton]
  unfold cc0__fused_kernel_skel
  simp only [k0_part1_eq_skeleton, k0_part2_eq_skeleton]
  unfold k0_part1_skel k0_part2_skel
  unfold owns TODO FL0 FL1 REST
  iintro ⟨⟨%f1, %hf1, H1⟩, ⟨%f2, %hf2, H2⟩, ⟨%f3, %hf3, H3⟩, ⟨%f4, %hf4, H4⟩, ⟨%d7, %f7, -, H7⟩, ⟨%fa, %hfa, Ha⟩, ⟨⟨%fo0, Ho0⟩, ⟨%fo1, Ho1⟩⟩, ⟨Hq0, Hq1, ⟨%es, HS⟩⟩, HW, Hk⟩
  have ea := (View.readAt_full acM.view fa inb_S2x64_S2x64_0_0).trans hfa
  have e1 := (View.readAt_full arg1.view f1 inb_S1024x2048_S1024x2048_0_0).trans hf1
  have e2 := (View.readAt_full arg2.view f2 inb_S2048x64_S2048x64_0_0).trans hf2
  have e3 := (View.readAt_full arg3.view f3 inb_S64x2000_S64x2000_0_0).trans hf3
  have e4 := (View.readAt_full arg4.view f4 inb_S1x2000_S1x2000_0_0).trans hf4
  sl_exec
  ihave HT := (slot_split (F := F) c (Ring.sl 2 t.val) _) $$ [HS]
  · iexact HS
  icases HT with ⟨Hb0, Hb1⟩
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H7]
  · iexists _; isplitr; swap; · iexact H7
    ipureintro; exact View.read_writes_full _ _ _ _ _
  isplitl [Ha]
  · iexists _; isplitr; swap; · iexact Ha
    ipureintro; refine (View.read_writes_full _ _ _ _ _).trans ?_; unfold accStep; dsimp only
  isplitl [Hq0]
  · iexists _, _; isplitr; swap; · iexact Hq0
    ipureintro; refine (View.read_writes_whole _ _ _).trans ?_; unfold run_second.sl.dma0 run_second.sl.HS_w1; change (band0 _).view.read (Elt F) _ = _; exact (band0_of_slot _ _ _ (slot_stored t _ es (blkOut X1 X2 X3 X4)))
  isplitl [Hq1]
  · iexists _, _; isplitr; swap; · iexact Hq1
    ipureintro; refine (View.read_writes_whole _ _ _).trans ?_; exact (band1_of_slot _ _ _ (slot_stored t _ es (blkOut X1 X2 X3 X4)))
  iexists _; iexact HW

/-- A point past the second, not the last. -/
theorem run_steady (c : Dev nD) (t : Fin grid0.N) (ht : 2 ≤ t.val) (ht' : t.val < 7)
    (arg1 : Memref sig .tc .vmem S1024x2048 .f32) (h1 : arg1.IsWhole) (arg2 : Memref sig .tc .vmem S2048x64 .f32) (h2 : arg2.IsWhole)
    (arg3 : Memref sig .tc .vmem S64x2000 .f32) (h3 : arg3.IsWhole) (arg4 : Memref sig .tc .vmem S1x2000 .f32) (h4 : arg4.IsWhole)
    (arg6 : Memref sig .tc .vmem S1x1 .f32) (h6 : arg6.IsWhole) (arg7 : Memref sig .tc .vmem S1024x2 .i32) (h7 : arg7.IsWhole)
    (X1 : Vec F S1024x2048 .f32) (X2 : Vec F S2048x64 .f32) (X3 : Vec F S64x2000 .f32) (X4 : Vec F S1x2000 .f32)
    (A : Vec F S2x64 .f32) (u u' : Fin 8) (Y Y' : Vec F S1x1024x2000 .f32) (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4
      ∗ (∃ d, owns (c : Thread nD τ) arg7 fullShare d) ∗ owns (c : Thread nD τ) acM fullShare A
      ∗ TODO (F := F) c (Ring.bk 8 t.val) ∗ FL0 (F := F) c (Ring.sl 2 t.val) u Y ∗ FL1 (F := F) c (Ring.sl 2 t.val) u Y ∗ owes (c : Thread nD τ) 0 W
      ∗ (iprop(owns (c : Thread nD τ) arg1 fullShare X1 ∗ owns (c : Thread nD τ) arg2 fullShare X2 ∗ owns (c : Thread nD τ) arg3 fullShare X3 ∗ owns (c : Thread nD τ) arg4 fullShare X4
          ∗ owns (c : Thread nD τ) arg7 fullShare (k0_pay6 X1 X2) ∗ owns (c : Thread nD τ) acM fullShare (accStep X1 X2 A)
          ∗ FL0 (F := F) c (Ring.sl 2 t.val) (Ring.bk 8 t.val) (blkOut X1 X2 X3 X4) ∗ FL1 (F := F) c (Ring.sl 2 t.val) (Ring.bk 8 t.val) (blkOut X1 X2 X3 X4) ∗ DN0 (F := F) c u Y ∗ DN1 (F := F) c u Y ∗ (∃ W', owes (c : Thread nD τ) 0 W')) -∗ K ⟨⟩))
    ⊢ wp frame (wpE (defs₀ (F := F)) Variants.none c none) Set.univ
        (cc0__fused_kernel (grid0.coords t) arg1 h1 arg2 h2 arg3 h3 arg4 h4 (Memref.whole main_v0_0) (Memref.isWhole_whole _) arg6 h6 arg7 h7
          (Memref.whole cc0_scratch0) (Memref.isWhole_whole _) (Memref.whole cc0_scratch1) (Memref.isWhole_whole _) cc0_scratch2 cc0_scratch3) K := by
  have hc1 : ¬ Scalar.cmpi .ne (Scalar.extui (Scalar.cmpi .eq (BitVec.ofNat 32 (grid0.coords t 0).val) 0#32 : BitVec 1) : BitVec 32) 0#32 = 1#1 := by rw [cond1_eq]; omega
  have hc2 : ¬ k0_cond2 (grid0.coords t) = 1#1 := by rw [cond2_eq]; omega
  have hc3 : k0_cond3 (grid0.coords t) = 1#1 := by rw [cond3_eq]; omega
  have hc4 : ¬ k0_cond4 (grid0.coords t) = 1#1 := by rw [cond4_eq]; omega
  have hin : ((Memref.whole cc0_scratch0 : Memref sig .tc .vmem S2x1024x2000 .f32).access (Rect.unit (s := S2x1024x2000) (k0_off6 (grid0.coords t)) S1x1024x2000.size (k0_off6_inb _))).set ⊆ (slot (Ring.sl 2 t.val)).view.set := (slot_access t _).subset
  simp only [cc0__fused_kernel_eq_skeleton]
  unfold cc0__fused_kernel_skel
  simp only [k0_part1_eq_skeleton, k0_part2_eq_skeleton]
  unfold k0_part1_skel k0_part2_skel
  unfold owns TODO FL0 FL1 DN0 DN1
  iintro ⟨⟨%f1, %hf1, H1⟩, ⟨%f2, %hf2, H2⟩, ⟨%f3, %hf3, H3⟩, ⟨%f4, %hf4, H4⟩, ⟨%d7, %f7, -, H7⟩, ⟨%fa, %hfa, Ha⟩, ⟨⟨%fo0, Ho0⟩, ⟨%fo1, Ho1⟩⟩, ⟨%gq0, %eq0, %hq0, Hq0⟩, ⟨%gq1, %eq1, %hq1, Hq1⟩, HW, Hk⟩
  have ea := (View.readAt_full acM.view fa inb_S2x64_S2x64_0_0).trans hfa
  have e1 := (View.readAt_full arg1.view f1 inb_S1024x2048_S1024x2048_0_0).trans hf1
  have e2 := (View.readAt_full arg2.view f2 inb_S2048x64_S2048x64_0_0).trans hf2
  have e3 := (View.readAt_full arg3.view f3 inb_S64x2000_S64x2000_0_0).trans hf3
  have e4 := (View.readAt_full arg4.view f4 inb_S1x2000_S1x2000_0_0).trans hf4
  sl_exec
  ihave HS' := (slot_join (F := F) c (Ring.sl 2 t.val) _ _) $$ [Hq0_src Hq1_src]
  · isplitl [Hq0_src]; · iexact Hq0_src
    iexact Hq1_src
  icases HS' with ⟨%es, HS⟩
  sl_exec
  ihave HT := (slot_split (F := F) c (Ring.sl 2 t.val) _) $$ [HS]
  · iexact HS
  icases HT with ⟨Hb0, Hb1⟩
  sl_exec
  sl_step
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H7]
  · iexists _; isplitr; swap; · iexact H7
    ipureintro; exact View.read_writes_full _ _ _ _ _
  isplitl [Ha]
  · iexists _; isplitr; swap; · iexact Ha
    ipureintro; refine (View.read_writes_full _ _ _ _ _).trans ?_; unfold accStep; dsimp only
  isplitl [Hq0]
  · iexists _, _; isplitr; swap; · iexact Hq0
    ipureintro; refine (View.read_writes_whole _ _ _).trans ?_; unfold run_steady.sl.dma0 run_steady.sl.HS_w1; change (band0 _).view.read (Elt F) _ = _; exact (band0_of_slot _ _ _ (slot_stored t _ es (blkOut X1 X2 X3 X4)))
  isplitl [Hq1]
  · iexists _, _; isplitr; swap; · iexact Hq1
    ipureintro; refine (View.read_writes_whole _ _ _).trans ?_; exact (band1_of_slot _ _ _ (slot_stored t _ es (blkOut X1 X2 X3 X4)))
  isplitl [Hq0_dst]
  · iexists _; isplitr; swap; · iexact Hq0_dst
    ipureintro; exact hq0
  isplitl [Hq1_dst]
  · iexists _; isplitr; swap; · iexact Hq1_dst
    ipureintro; exact hq1
  iexists _; iexact HW

/-- The last point. -/
theorem run_last (c : Dev nD) (t : Fin grid0.N) (ht : t.val = 7)
    (arg1 : Memref sig .tc .vmem S1024x2048 .f32) (h1 : arg1.IsWhole) (arg2 : Memref sig .tc .vmem S2048x64 .f32) (h2 : arg2.IsWhole)
    (arg3 : Memref sig .tc .vmem S64x2000 .f32) (h3 : arg3.IsWhole) (arg4 : Memref sig .tc .vmem S1x2000 .f32) (h4 : arg4.IsWhole)
    (arg6 : Memref sig .tc .vmem S1x1 .f32) (h6 : arg6.IsWhole) (arg7 : Memref sig .tc .vmem S1024x2 .i32) (h7 : arg7.IsWhole)
    (X1 : Vec F S1024x2048 .f32) (X2 : Vec F S2048x64 .f32) (X3 : Vec F S64x2000 .f32) (X4 : Vec F S1x2000 .f32)
    (A : Vec F S2x64 .f32) (u u' : Fin 8) (Y Y' : Vec F S1x1024x2000 .f32) (W : Waits sig Unit) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4
      ∗ (∃ d, owns (c : Thread nD τ) arg7 fullShare d) ∗ owns (c : Thread nD τ) acM fullShare A
      ∗ TODO (F := F) c (Ring.bk 8 t.val) ∗ FL0 (F := F) c (Ring.sl 2 t.val) u Y ∗ FL1 (F := F) c (Ring.sl 2 t.val) u Y ∗ FL0 (F := F) c (Ring.sl 2 (t.val + 1)) u' Y' ∗ FL1 (F := F) c (Ring.sl 2 (t.val + 1)) u' Y' ∗ (∃ d, owns (c : Thread nD τ) arg6 fullShare d) ∗ owes (c : Thread nD τ) 0 W
      ∗ (iprop(owns (c : Thread nD τ) arg1 fullShare X1 ∗ owns (c : Thread nD τ) arg2 fullShare X2 ∗ owns (c : Thread nD τ) arg3 fullShare X3 ∗ owns (c : Thread nD τ) arg4 fullShare X4
          ∗ owns (c : Thread nD τ) arg7 fullShare (k0_pay6 X1 X2) ∗ owns (c : Thread nD τ) acM fullShare (accStep X1 X2 A)
          ∗ owns (c : Thread nD τ) arg6 fullShare (auxOut X1 X2 A) ∗ DN0 (F := F) c (Ring.bk 8 t.val) (blkOut X1 X2 X3 X4) ∗ DN1 (F := F) c (Ring.bk 8 t.val) (blkOut X1 X2 X3 X4) ∗ DN0 (F := F) c u Y ∗ DN1 (F := F) c u Y ∗ DN0 (F := F) c u' Y' ∗ DN1 (F := F) c u' Y' ∗ REST (F := F) c (Ring.sl 2 t.val) ∗ REST (F := F) c (Ring.sl 2 (t.val + 1)) ∗ (∃ W', owes (c : Thread nD τ) 0 W')) -∗ K ⟨⟩))
    ⊢ wp frame (wpE (defs₀ (F := F)) Variants.none c none) Set.univ
        (cc0__fused_kernel (grid0.coords t) arg1 h1 arg2 h2 arg3 h3 arg4 h4 (Memref.whole main_v0_0) (Memref.isWhole_whole _) arg6 h6 arg7 h7
          (Memref.whole cc0_scratch0) (Memref.isWhole_whole _) (Memref.whole cc0_scratch1) (Memref.isWhole_whole _) cc0_scratch2 cc0_scratch3) K := by
  have hc1 : ¬ Scalar.cmpi .ne (Scalar.extui (Scalar.cmpi .eq (BitVec.ofNat 32 (grid0.coords t 0).val) 0#32 : BitVec 1) : BitVec 32) 0#32 = 1#1 := by rw [cond1_eq]; omega
  have hc2 : k0_cond2 (grid0.coords t) = 1#1 := by rw [cond2_eq]; omega
  have hc3 : k0_cond3 (grid0.coords t) = 1#1 := by rw [cond3_eq]; omega
  have hc4 : k0_cond4 (grid0.coords t) = 1#1 := by rw [cond4_eq]; omega
  have hc5 : k0_cond5 (grid0.coords t) = 1#1 := by rw [cond5_eq]; omega
  have hin : ((Memref.whole cc0_scratch0 : Memref sig .tc .vmem S2x1024x2000 .f32).access (Rect.unit (s := S2x1024x2000) (k0_off6 (grid0.coords t)) S1x1024x2000.size (k0_off6_inb _))).set ⊆ (slot (Ring.sl 2 t.val)).view.set := (slot_access t _).subset
  simp only [cc0__fused_kernel_eq_skeleton]
  unfold cc0__fused_kernel_skel
  simp only [k0_part1_eq_skeleton, k0_part2_eq_skeleton]
  unfold k0_part1_skel k0_part2_skel
  unfold owns TODO FL0 FL1 DN0 DN1 REST
  iintro ⟨⟨%f1, %hf1, H1⟩, ⟨%f2, %hf2, H2⟩, ⟨%f3, %hf3, H3⟩, ⟨%f4, %hf4, H4⟩, ⟨%d7, %f7, -, H7⟩, ⟨%fa, %hfa, Ha⟩, ⟨⟨%fo0, Ho0⟩, ⟨%fo1, Ho1⟩⟩, ⟨%gq0, %eq0, %hq0, Hq0⟩, ⟨%gq1, %eq1, %hq1, Hq1⟩, ⟨%gp0, %ep0, %hp0, Hp0⟩, ⟨%gp1, %ep1, %hp1, Hp1⟩, ⟨%d6, %f6, -, H6⟩, HW, Hk⟩
  have ea := (View.readAt_full acM.view fa inb_S2x64_S2x64_0_0).trans hfa
  have e1 := (View.readAt_full arg1.view f1 inb_S1024x2048_S1024x2048_0_0).trans hf1
  have e2 := (View.readAt_full arg2.view f2 inb_S2048x64_S2048x64_0_0).trans hf2
  have e3 := (View.readAt_full arg3.view f3 inb_S64x2000_S64x2000_0_0).trans hf3
  have e4 := (View.readAt_full arg4.view f4 inb_S1x2000_S1x2000_0_0).trans hf4
  sl_exec
  ihave HS' := (slot_join (F := F) c (Ring.sl 2 t.val) _ _) $$ [Hq0_src Hq1_src]
  · isplitl [Hq0_src]; · iexact Hq0_src
    iexact Hq1_src
  icases HS' with ⟨%es, HS⟩
  sl_exec
  ihave HT := (slot_split (F := F) c (Ring.sl 2 t.val) _) $$ [HS]
  · iexact HS
  icases HT with ⟨Hb0, Hb1⟩
  sl_exec
  sl_step
  ihave HA' := (slot_join (F := F) c (Ring.sl 2 t.val) _ _) $$ [Hb0 Hb1]
  · isplitl [Hb0]; · iexact Hb0
    iexact Hb1
  icases HA' with ⟨%ea', HA⟩
  ihave HB' := (slot_join (F := F) c (Ring.sl 2 (t.val + 1)) _ _) $$ [Hp0_src Hp1_src]
  · isplitl [Hp0_src]; · iexact Hp0_src
    iexact Hp1_src
  icases HB' with ⟨%eb', HB⟩
  iapply Hk
  isplitl [H1]
  · iexists _; isplitr; swap; · iexact H1
    ipureintro; exact hf1
  isplitl [H2]
  · iexists _; isplitr; swap; · iexact H2
    ipureintro; exact hf2
  isplitl [H3]
  · iexists _; isplitr; swap; · iexact H3
    ipureintro; exact hf3
  isplitl [H4]
  · iexists _; isplitr; swap; · iexact H4
    ipureintro; exact hf4
  isplitl [H7]
  · iexists _; isplitr; swap; · iexact H7
    ipureintro; exact View.read_writes_full _ _ _ _ _
  isplitl [Ha]
  · iexists _; isplitr; swap; · iexact Ha
    ipureintro; refine (View.read_writes_full _ _ _ _ _).trans ?_; unfold accStep; dsimp only
  isplitl [H6]
  · iexists _; isplitr; swap; · iexact H6
    ipureintro; refine (View.read_writes_full _ _ _ _ _).trans ?_; unfold auxOut; dsimp only
  isplitl [Ho0]
  · iexists _; isplitr; swap; · iexact Ho0
    ipureintro; refine (View.read_writes_whole _ _ _).trans ?_; unfold run_last.sl.dma0 run_last.sl.HS_w1; change (band0 _).view.read (Elt F) _ = _; exact (band0_of_slot _ _ _ (slot_stored t _ es (blkOut X1 X2 X3 X4)))
  isplitl [Ho1]
  · iexists _; isplitr; swap; · iexact Ho1
    ipureintro; refine (View.read_writes_whole _ _ _).trans ?_; exact (band1_of_slot _ _ _ (slot_stored t _ es (blkOut X1 X2 X3 X4)))
  isplitl [Hq0_dst]
  · iexists _; isplitr; swap; · iexact Hq0_dst
    ipureintro; exact hq0
  isplitl [Hq1_dst]
  · iexists _; isplitr; swap; · iexact Hq1_dst
    ipureintro; exact hq1
  isplitl [Hp0_dst]
  · iexists _; isplitr; swap; · iexact Hp0_dst
    ipureintro; exact hp0
  isplitl [Hp1_dst]
  · iexists _; isplitr; swap; · iexact Hp1_dst
    ipureintro; exact hp1
  isplitl [Hq0 Hq1 HA]
  · isplitl [Hq0]; · iexact Hq0
    isplitl [Hq1]; · iexact Hq1
    iexists _; iexact HA
  isplitl [Hp0 Hp1 HB]
  · isplitl [Hp0]; · iexact Hp0
    isplitl [Hp1]; · iexact Hp1
    iexists _; iexact HB
  iexists _; iexact HW

end Cert.KernelIdeal.Hand

end
-- ==== Proof.PayI.lean ====
/-
  A grid point's values read at an index, in terms of the point's rows of router products: the softmax, its two greatest
  positions, the counts and the spreads added to the accumulator, and the loss and the head's block computed from them.
-/
module

public import proofs.«01_k».proof.Proof.Spec
public import proofs.«01_k».proof.Proof.BodyI

@[expose] public section

set_option maxRecDepth 16384

noncomputable section

namespace Cert.KernelIdeal.Hand

open Cert.KernelIdeal Cert.KernelIdeal.Gen Cert.Top2
open Idealize.ShloMosaic Idealize.ShloMosaic.TcCoe Idealize.SL.Sem

/-- A row of router products. -/
def lg (X : Vec Ideal S1024x2048 .f32) (W : Vec Ideal S2048x64 .f32) (r : Fin 1024) (j : Fin 64) : EReal :=
  ∑ k : Fin 2048, X (ix2 r k) * W (ix2 k j)

variable (X : Vec Ideal S1024x2048 .f32) (W : Vec Ideal S2048x64 .f32)

theorem pay1_at (r : Fin 1024) (j : Fin 64) : k0_pay1 (F := Ideal) X W (ix2 r j) = sm (lg X W r) j := by
  pointwise [k0_pay1]
  rfl

theorem pay2_at (r : Fin 1024) : k0_pay2 (F := Ideal) X W (ix1 r) = pick (sm (lg X W r)) := by
  have h : (fun x => k0_pay1 (F := Ideal) X W (ix2 r x)) = sm (lg X W r) := funext fun x => pay1_at X W r x
  rw [← h]
  pointwise [k0_pay2]
  rfl

theorem pay4_at (r : Fin 1024) : k0_pay4 (F := Ideal) X W (ix1 r) = pick (hide (pick (sm (lg X W r))) (sm (lg X W r))) := by
  have h : (fun x => k0_pay1 (F := Ideal) X W (ix2 r x)) = sm (lg X W r) := funext fun x => pay1_at X W r x
  rw [← pay2_at X W r, ← h]
  pointwise [k0_pay4, k0_pay3]
  rfl

theorem pay6_at (r : Fin 1024) (k : Fin 2) : k0_pay6 (F := Ideal) X W (ix2 r k)
    = if k.val < 1 then pick (sm (lg X W r)) else pick (hide (pick (sm (lg X W r))) (sm (lg X W r))) := by
  rw [← pay4_at X W r, ← pay2_at X W r]
  pointwise [k0_pay6]
  rfl

theorem pay5_at (r : Fin 1024) (e : Fin 64) : k0_pay5 (F := Ideal) X W (ix2 r e)
    = IntOp.cmpi .eq (BitVec.ofNat 32 e.val) (k0_pay4 (F := Ideal) X W (ix1 r)) := by
  pointwise [k0_pay5]

theorem pay7_at (r : Fin 1024) (e : Fin 64) : k0_pay7 (F := Ideal) X W (ix2 r e)
    = (IntOp.cmpi .eq (BitVec.ofNat 32 e.val) (k0_pay2 (F := Ideal) X W (ix1 r))).setWidth 32 := by
  pointwise [k0_pay7, k0_pay3]

theorem count_eq (a b : BitVec 32) : FloatOps.sitofp (F := Ideal) FTy.f32 ((IntOp.cmpi .eq a b).setWidth 32)
    = FloatOps.uitofp (F := Ideal) FTy.f32 (IntOp.cmpi .eq b a) := by
  show (((((BitVec.ofBool (a == b)).setWidth 32).toInt : ℤ) : ℝ) : EReal) = ((((BitVec.ofBool (b == a)).toNat : ℕ) : ℝ) : EReal)
  by_cases h : a = b
  · subst h; simp
  · have h1 : (a == b) = false := by simpa using h
    have h2 : (b == a) = false := by simpa using fun e : b = a => h e.symm
    rw [h1, h2]; simp

/-- How often an expert is chosen in a block. -/
def cnt (e : Fin 64) : EReal :=
  ∑ r : Fin 1024, ∑ k : Fin 2, FloatOps.uitofp (F := Ideal) FTy.f32 (IntOp.cmpi .eq (k0_pay6 (F := Ideal) X W (ix2 r k)) (BitVec.ofNat 32 e.val))
/-- The sum of an expert's shares in a block. -/
def spr (e : Fin 64) : EReal := ∑ r : Fin 1024, k0_pay1 (F := Ideal) X W (ix2 r e)

theorem step_cnt (A : Vec Ideal S2x64 .f32) (e : Fin 64) : accStep (F := Ideal) X W A (ix2 0 e) = A (ix2 0 e) + cnt X W e := by
  unfold accStep cnt
  generalize hP : k0_pay1 (F := Ideal) X W = P
  generalize hH : k0_pay5 (F := Ideal) X W = H
  generalize hG : k0_pay7 (F := Ideal) X W = G
  pointwise [k0_pay10, k0_pay9]
  subst hP hH hG
  refine congrArg (A (ix2 0 e) + ·) ?_
  refine Finset.sum_congr rfl fun r _ => ?_
  rw [Fin.sum_univ_two, pay5_at, pay7_at, pay6_at, pay6_at, pay2_at, pay4_at, count_eq, count_eq]
  rfl

theorem step_spr (A : Vec Ideal S2x64 .f32) (e : Fin 64) : accStep (F := Ideal) X W A (ix2 1 e) = A (ix2 1 e) + spr X W e := by
  unfold accStep spr
  generalize hP : k0_pay1 (F := Ideal) X W = P
  generalize hH : k0_pay5 (F := Ideal) X W = H
  generalize hG : k0_pay7 (F := Ideal) X W = G
  pointwise [k0_pay10, k0_pay9]

theorem aux_at (A : Vec Ideal S2x64 .f32) (i k : Fin 1) : auxOut (F := Ideal) X W A (ix2 i k)
    = Ideal.ofBits FTy.f32 0x35000000#32 * ∑ e : Fin 64, accStep (F := Ideal) X W A (ix2 0 e) * accStep (F := Ideal) X W A (ix2 1 e) := by
  unfold auxOut accStep
  generalize hP : k0_pay1 (F := Ideal) X W = P
  generalize hH : k0_pay5 (F := Ideal) X W = H
  generalize hG : k0_pay7 (F := Ideal) X W = G
  pointwise [k0_pay11, k0_pay10]

theorem blk_at (H : Vec Ideal S64x2000 .f32) (b : Vec Ideal S1x2000 .f32) (i : Fin 1) (r : Fin 1024) (j : Fin 2000) :
    blkOut (F := Ideal) X W H b (ix3 i r j) = ∑ k : Fin 64, k0_pay1 (F := Ideal) X W (ix2 r k) * H (ix2 k j) + b (ix2 0 j) := by
  unfold blkOut
  generalize hP : k0_pay1 (F := Ideal) X W = P
  pointwise [k0_pay12]

end Cert.KernelIdeal.Hand
-- ==== Proof.FrameI.lean ====
/-
  The launch of the kernel: the proof data (what each window holds after each point, the ring and the accumulator between
  points), the body's obligation from the runs of its four cases, the run of the whole program, and the frame.
-/
module

public import proofs.«01_k».proof.Proof.BodyI

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline library's with the transfers' counters. -/
local notation "𝕄" => MT nD τ sig Unit (Elt F) ℕ (Pipeline.UD sig nD τ) ℕ

variable (m : (ℓ : Loc nD τ sig) → Buf (Elt F) ℓ) (ρ : Dev nD → PrngReg)

/-! ## @main around the region, at this algebra -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The body's four copy semaphores. -/
abbrev osem0 : Fin 4 → SemLoc sig := fun j => (![SemLoc.dma 8, SemLoc.dma 9, SemLoc.dma 10, SemLoc.dma 11] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 8) 0 ∗ semVal ((c : Thread nD τ), SemLoc.dma 9) 0
          ∗ semVal ((c : Thread nD τ), SemLoc.dma 10) 0 ∗ semVal ((c : Thread nD τ), SemLoc.dma 11) 0) := by
  rw [Pipeline.ownSems0_eq_of_list c osem0 [0, 1, 2, 3] (by decide) (by decide)]; rfl

/-- The result left in HBM that the body's copies write. -/
def R0 : Finset (Ref sig .tc) := {main_v0_0}
theorem R0_sub : R0 ⊆ Pipeline.restRefs sig spec0 \ ∅ := by decide

/-! ## What each point computes -/

theorem ptn_lt (n : ℕ) : n % 8 < grid0.N := by rw [N_0]; omega
/-- Point `n`. -/
def ptn (n : ℕ) : Fin cfg0.N := ⟨n % 8, ptn_lt n⟩
theorem ptn_val (t : Fin cfg0.N) : ptn t.val = t := by
  have h : t.val < grid0.N := t.isLt
  rw [N_0] at h
  exact Fin.ext (Nat.mod_eq_of_lt h)
theorem ptn_bk (t : Fin cfg0.N) : ptn (Ring.bk 8 t.val).val = t := by
  have h : t.val < grid0.N := t.isLt
  rw [N_0] at h
  rw [Ring.bk_val (NB := 8) h, ptn_val]

abbrev bX1 (c : Dev nD) (t : Fin cfg0.N) : Vec F S1024x2048 .f32 := iblk m c 0 t
abbrev bX2 (c : Dev nD) (t : Fin cfg0.N) : Vec F S2048x64 .f32 := iblk m c 1 t
abbrev bX3 (c : Dev nD) (t : Fin cfg0.N) : Vec F S64x2000 .f32 := iblk m c 2 t
abbrev bX4 (c : Dev nD) (t : Fin cfg0.N) : Vec F S1x2000 .f32 := iblk m c 3 t

/-- The block of the result point `t` computes. -/
def blkAt (c : Dev nD) (t : Fin cfg0.N) : Vec F S1x1024x2000 .f32 := blkOut (bX1 m c t) (bX2 m c t) (bX3 m c t) (bX4 m c t)
/-- The accumulator before point `n`, once cleared. -/
def accAt (c : Dev nD) : ℕ → Vec F S2x64 .f32
  | 0 => k0_pay8
  | n + 1 => accStep (bX1 m c (ptn n)) (bX2 m c (ptn n)) (accAt c n)
theorem accAt_succ (c : Dev nD) (t : Fin cfg0.N) : accAt m c (t.val + 1) = accStep (bX1 m c t) (bX2 m c t) (accAt m c t.val) := by
  show accStep (bX1 m c (ptn t.val)) (bX2 m c (ptn t.val)) (accAt m c t.val) = _
  rw [ptn_val]

/-! ## The ring and the accumulator between points -/

def free (c : Dev nD) (g : Fin 2) : sProp 𝕄 := REST (F := F) c g
def infl (c : Dev nD) (g : Fin 2) (u : Fin 8) : sProp 𝕄 := iprop(FL0 (F := F) c g u (blkAt m c (ptn u.val)) ∗ FL1 (F := F) c g u (blkAt m c (ptn u.val)))
def ahead (c : Dev nD) (u : Fin 8) : sProp 𝕄 := TODO (F := F) c u
def behind (c : Dev nD) (u : Fin 8) : sProp 𝕄 := iprop(DN0 (F := F) c u (blkAt m c (ptn u.val)) ∗ DN1 (F := F) c u (blkAt m c (ptn u.val)))

def acc (c : Dev nD) (n : ℕ) : sProp 𝕄 :=
  if n = 0 then iprop(∃ d, owns (c : Thread nD τ) acM fullShare d) else owns (c : Thread nD τ) acM fullShare (accAt m c n)

def ΦAt (c : Dev nD) (n : ℕ) : sProp 𝕄 :=
  iprop(Ring.AtBΦ 2 (free (F := F) c) (infl m c) (ahead (F := F) c) (behind m c) n ∗ acc m c n)

/-- The proof data: the arrays as the region finds them, what the body leaves in each window, the ring between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => auxOut (bX1 m c t) (bX2 m c t) (accAt m c t.val)
    | ⟨5, _⟩ => k0_pay6 (bX1 m c t) (bX2 m c t)
  Φ t := ΦAt m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = auxOut (bX1 m c t) (bX2 m c t) (accAt m c t.val) := by dsimp only [dats]
theorem after0_5 (c : Dev nD) (t : Fin cfg0.N) : (dats m 0 c).after 5 t = k0_pay6 (bX1 m c t) (bX2 m c t) := by dsimp only [dats]
theorem Phi_eq (c : Dev nD) (t : Fin (cfg0.N + 1)) : (dats m 0 c).Φ t = ΦAt m c t.val := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

/-! ## The body's obligation -/

/-- The auxiliary loss's window after a point: written at the last, as found elsewhere. -/
def post4 (c : Dev nD) (t : Fin cfg0.N) : sProp 𝕄 :=
  if t.val = 7 then owns (c : Thread nD τ) (st0_4 t) fullShare ((dats m 0 c).after 4 t)
  else iprop(∃ d, owns (c : Thread nD τ) (st0_4 t) fullShare ((dats m 0 c).before 4 t d))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ post4 m c t
    ∗ owns (c : Thread nD τ) (st0_5 t) fullShare ((dats m 0 c).after 5 t))

theorem body_first (c : Dev nD) (t : Fin cfg0.N) (ht : t.val = 0) :
    bodyPre m c t ⊢ wp frame (wpE (defs₀ (F := F)) Variants.none c none) Set.univ (bodyAt0 t) (fun _ => bodyPost m c t) := by
  have hN : t.val < 8 := by have h : t.val < grid0.N := t.isLt; rwa [N_0] at h
  unfold bodyPre bodyPost bodyAt0
  rw [Phi_eq, Phi_eq, Fin.val_castSucc, Fin.val_succ, after0_0, after0_1, after0_2, after0_3, after0_5]
  simp only [before0_0, before0_1, before0_2, before0_3]
  unfold ΦAt acc post4
  rw [Ring.AtBΦ_lt _ _ _ _ _ t.val (by omega), Ring.AtBΦ_lt _ _ _ _ _ (t.val + 1) (by omega), Ring.AtB2_zero' 2 (free (F := F) c) (infl m c) (ahead (F := F) c) (behind m c) t.val ht, Ring.AtB22_next_zero' (free (F := F) c) (infl m c) (ahead (F := F) c) (behind m c) t.val ht]
  rw [if_pos ht, if_neg (show ¬ t.val + 1 = 0 by omega)]
  rw [if_neg (show ¬ t.val = 7 by omega)]
  rw [show infl m c (Ring.sl 2 t.val) (Ring.bk 8 t.val) = iprop(FL0 (F := F) c (Ring.sl 2 t.val) (Ring.bk 8 t.val) (blkAt m c t) ∗ FL1 (F := F) c (Ring.sl 2 t.val) (Ring.bk 8 t.val) (blkAt m c t)) from by unfold infl; rw [ptn_bk]]
  unfold free ahead
  unfold Dat.owesAt Pipeline.owesWithin
  rw [show (dats m 0 c).owed t.castSucc = 0 from rfl, show (dats m 0 c).owed t.succ = 0 from rfl]
  iintro ⟨⟨⟨⟨Htd, Hah⟩, Hrs, Hfr⟩, Ha⟩, ⟨%W, -, HW⟩, ⟨%d0, Hn0⟩, ⟨%d1, Hn1⟩, ⟨%d2, Hn2⟩, ⟨%d3, Hn3⟩, ⟨%d4, H4⟩, ⟨%d5, H5⟩⟩
  iapply (run_first (F := F) c t ht (st0_0 t) _ (st0_1 t) _ (st0_2 t) _ (st0_3 t) _ (st0_4 t) _ (st0_5 t) _ (bX1 m c t) (bX2 m c t) (bX3 m c t) (bX4 m c t) W _)
  isplitl [Hn0]; · iexact Hn0
  isplitl [Hn1]; · iexact Hn1
  isplitl [Hn2]; · iexact Hn2
  isplitl [Hn3]; · iexact Hn3
  isplitl [H5]; · iexists _; iexact H5
  isplitl [Ha]; · iexact Ha
  isplitl [Htd]; · iexact Htd
  isplitl [Hrs]; · iexact Hrs
  isplitl [HW]; · iexact HW
  iintro ⟨Hn0, Hn1, Hn2, Hn3, H5, Ha, Hf0, Hf1, ⟨%W', HW'⟩⟩
  isplitl [Hah Hfr Hf0 Hf1 Ha]
  · isplitl [Hah Hfr Hf0 Hf1]
    · isplitl [Hah]; · iexact Hah
      isplitl [Hfr]; · iexact Hfr
      isplitl [Hf0]; · iexact Hf0
      iexact Hf1
    rw [accAt_succ, show accAt m c t.val = k0_pay8 from by rw [ht]; rfl]; iexact Ha
  isplitl [HW']
  · iexists W'; isplitr; · ipureintro; exact fun _ _ => Or.inl trivial
    iexact HW'
  isplitl [Hn0]; · iexact Hn0
  isplitl [Hn1]; · iexact Hn1
  isplitl [Hn2]; · iexact Hn2
  isplitl [Hn3]; · iexact Hn3
  isplitl [H4]; · iexists d4; iexact H4
  iexact H5

theorem body_second (c : Dev nD) (t : Fin cfg0.N) (ht : t.val = 1) :
    bodyPre m c t ⊢ wp frame (wpE (defs₀ (F := F)) Variants.none c none) Set.univ (bodyAt0 t) (fun _ => bodyPost m c t) := by
  have hN : t.val < 8 := by have h : t.val < grid0.N := t.isLt; rwa [N_0] at h
  unfold bodyPre bodyPost bodyAt0
  rw [Phi_eq, Phi_eq, Fin.val_castSucc, Fin.val_succ, after0_0, after0_1, after0_2, after0_3, after0_5]
  simp only [before0_0, before0_1, before0_2, before0_3]
  unfold ΦAt acc post4
  rw [Ring.AtBΦ_lt _ _ _ _ _ t.val (by omega), Ring.AtBΦ_lt _ _ _ _ _ (t.val + 1) (by omega), Ring.AtB22_one' (free (F := F) c) (infl m c) (ahead (F := F) c) (behind m c) t.val ht (by decide), Ring.AtB22_next_one' (free (F := F) c) (infl m c) (ahead (F := F) c) (behind m c) t.val ht]
  rw [if_neg (show ¬ t.val = 0 by omega), if_neg (show ¬ t.val + 1 = 0 by omega)]
  rw [if_neg (show ¬ t.val = 7 by omega)]
  rw [show infl m c (Ring.sl 2 t.val) (Ring.bk 8 t.val) = iprop(FL0 (F := F) c (Ring.sl 2 t.val) (Ring.bk 8 t.val) (blkAt m c t) ∗ FL1 (F := F) c (Ring.sl 2 t.val) (Ring.bk 8 t.val) (blkAt m c t)) from by unfold infl; rw [ptn_bk]]
  unfold free ahead
  unfold Dat.owesAt Pipeline.owesWithin
  rw [show (dats m 0 c).owed t.castSucc = 0 from rfl, show (dats m 0 c).owed t.succ = 0 from rfl]
  iintro ⟨⟨⟨⟨Htd, Hah⟩, Hrs, Hif⟩, Ha⟩, ⟨%W, -, HW⟩, ⟨%d0, Hn0⟩, ⟨%d1, Hn1⟩, ⟨%d2, Hn2⟩, ⟨%d3, Hn3⟩, ⟨%d4, H4⟩, ⟨%d5, H5⟩⟩
  iapply (run_second (F := F) c t ht (st0_0 t) _ (st0_1 t) _ (st0_2 t) _ (st0_3 t) _ (st0_4 t) _ (st0_5 t) _ (bX1 m c t) (bX2 m c t) (bX3 m c t) (bX4 m c t) (accAt m c t.val) W _)
  isplitl [Hn0]; · iexact Hn0
  isplitl [Hn1]; · iexact Hn1
  isplitl [Hn2]; · iexact Hn2
  isplitl [Hn3]; · iexact Hn3
  isplitl [H5]; · iexists _; iexact H5
  isplitl [Ha]; · iexact Ha
  isplitl [Htd]; · iexact Htd
  isplitl [Hrs]; · iexact Hrs
  isplitl [HW]; · iexact HW
  iintro ⟨Hn0, Hn1, Hn2, Hn3, H5, Ha, Hf0, Hf1, ⟨%W', HW'⟩⟩
  isplitl [Hah Hif Hf0 Hf1 Ha]
  · isplitl [Hah Hif Hf0 Hf1]
    · isplitl [Hah]; · iexact Hah
      isplitl [Hif]; · iexact Hif
      isplitl [Hf0]; · iexact Hf0
      iexact Hf1
    rw [accAt_succ]; iexact Ha
  isplitl [HW']
  · iexists W'; isplitr; · ipureintro; exact fun _ _ => Or.inl trivial
    iexact HW'
  isplitl [Hn0]; · iexact Hn0
  isplitl [Hn1]; · iexact Hn1
  isplitl [Hn2]; · iexact Hn2
  isplitl [Hn3]; · iexact Hn3
  isplitl [H4]; · iexists d4; iexact H4
  iexact H5

theorem body_steady (c : Dev nD) (t : Fin cfg0.N) (ht : 2 ≤ t.val) (ht' : t.val < 7) :
    bodyPre m c t ⊢ wp frame (wpE (defs₀ (F := F)) Variants.none c none) Set.univ (bodyAt0 t) (fun _ => bodyPost m c t) := by
  have hN : t.val < 8 := by have h : t.val < grid0.N := t.isLt; rwa [N_0] at h
  unfold bodyPre bodyPost bodyAt0
  rw [Phi_eq, Phi_eq, Fin.val_castSucc, Fin.val_succ, after0_0, after0_1, after0_2, after0_3, after0_5]
  simp only [before0_0, before0_1, before0_2, before0_3]
  unfold ΦAt acc post4
  rw [Ring.AtBΦ_lt _ _ _ _ _ t.val (by omega), Ring.AtBΦ_lt _ _ _ _ _ (t.val + 1) (by omega), Ring.AtB22_here (free (F := F) c) (infl m c) (ahead (F := F) c) (behind m c) t.val ht hN, Ring.AtB22_next (free (F := F) c) (infl m c) (ahead (F := F) c) (behind m c) t.val ht hN]
  rw [if_neg (show ¬ t.val = 0 by omega), if_neg (show ¬ t.val + 1 = 0 by omega)]
  rw [if_neg (show ¬ t.val = 7 by omega)]
  rw [show infl m c (Ring.sl 2 t.val) (Ring.bk 8 t.val) = iprop(FL0 (F := F) c (Ring.sl 2 t.val) (Ring.bk 8 t.val) (blkAt m c t) ∗ FL1 (F := F) c (Ring.sl 2 t.val) (Ring.bk 8 t.val) (blkAt m c t)) from by unfold infl; rw [ptn_bk]]
  rw [show infl m c (Ring.sl 2 t.val) (Ring.bk 8 (t.val - 2)) = iprop(FL0 (F := F) c (Ring.sl 2 t.val) (Ring.bk 8 (t.val - 2)) (blkAt m c (ptn (Ring.bk 8 (t.val - 2)).val)) ∗ FL1 (F := F) c (Ring.sl 2 t.val) (Ring.bk 8 (t.val - 2)) (blkAt m c (ptn (Ring.bk 8 (t.val - 2)).val))) from rfl]
  rw [show behind m c (Ring.bk 8 (t.val - 2)) = iprop(DN0 (F := F) c (Ring.bk 8 (t.val - 2)) (blkAt m c (ptn (Ring.bk 8 (t.val - 2)).val)) ∗ DN1 (F := F) c (Ring.bk 8 (t.val - 2)) (blkAt m c (ptn (Ring.bk 8 (t.val - 2)).val))) from rfl]
  unfold ahead
  unfold Dat.owesAt Pipeline.owesWithin
  rw [show (dats m 0 c).owed t.castSucc = 0 from rfl, show (dats m 0 c).owed t.succ = 0 from rfl]
  iintro ⟨⟨⟨⟨Htd, Hah⟩, Hbe, ⟨Hg0, Hg1⟩, Hif⟩, Ha⟩, ⟨%W, -, HW⟩, ⟨%d0, Hn0⟩, ⟨%d1, Hn1⟩, ⟨%d2, Hn2⟩, ⟨%d3, Hn3⟩, ⟨%d4, H4⟩, ⟨%d5, H5⟩⟩
  iapply (run_steady (F := F) c t ht ht' (st0_0 t) _ (st0_1 t) _ (st0_2 t) _ (st0_3 t) _ (st0_4 t) _ (st0_5 t) _ (bX1 m c t) (bX2 m c t) (bX3 m c t) (bX4 m c t) (accAt m c t.val) (Ring.bk 8 (t.val - 2)) 0 (blkAt m c (ptn (Ring.bk 8 (t.val - 2)).val)) (blkAt m c t) W _)
  isplitl [Hn0]; · iexact Hn0
  isplitl [Hn1]; · iexact Hn1
  isplitl [Hn2]; · iexact Hn2
  isplitl [Hn3]; · iexact Hn3
  isplitl [H5]; · iexists _; iexact H5
  isplitl [Ha]; · iexact Ha
  isplitl [Htd]; · iexact Htd
  isplitl [Hg0]; · iexact Hg0
  isplitl [Hg1]; · iexact Hg1
  isplitl [HW]; · iexact HW
  iintro ⟨Hn0, Hn1, Hn2, Hn3, H5, Ha, Hf0, Hf1, Hd0, Hd1, ⟨%W', HW'⟩⟩
  isplitl [Hah Hbe Hif Hf0 Hf1 Hd0 Hd1 Ha]
  · isplitl [Hah Hbe Hif Hf0 Hf1 Hd0 Hd1]
    · isplitl [Hah]; · iexact Hah
      isplitl [Hd0 Hd1 Hbe]
      · isplitl [Hd0 Hd1]
        · isplitl [Hd0]; · iexact Hd0
          iexact Hd1
        iexact Hbe
      isplitl [Hif]; · iexact Hif
      isplitl [Hf0]; · iexact Hf0
      iexact Hf1
    rw [accAt_succ]; iexact Ha
  isplitl [HW']
  · iexists W'; isplitr; · ipureintro; exact fun _ _ => Or.inl trivial
    iexact HW'
  isplitl [Hn0]; · iexact Hn0
  isplitl [Hn1]; · iexact Hn1
  isplitl [Hn2]; · iexact Hn2
  isplitl [Hn3]; · iexact Hn3
  isplitl [H4]; · iexists d4; iexact H4
  iexact H5

theorem body_last (c : Dev nD) (t : Fin cfg0.N) (ht : t.val = 7) :
    bodyPre m c t ⊢ wp frame (wpE (defs₀ (F := F)) Variants.none c none) Set.univ (bodyAt0 t) (fun _ => bodyPost m c t) := by
  have hN : t.val < 8 := by have h : t.val < grid0.N := t.isLt; rwa [N_0] at h
  unfold bodyPre bodyPost bodyAt0
  rw [Phi_eq, Phi_eq, Fin.val_castSucc, Fin.val_succ, after0_0, after0_1, after0_2, after0_3, after0_5]
  simp only [before0_0, before0_1, before0_2, before0_3]
  unfold ΦAt acc post4
  rw [Ring.AtBΦ_lt _ _ _ _ _ t.val (by omega), Ring.AtBΦ_end _ _ _ _ _ (t.val + 1) (by omega), Ring.AtB22_here_last (free (F := F) c) (infl m c) (ahead (F := F) c) (behind m c) t.val (by omega) (by omega), Ring.AtB22_drained (free (F := F) c) (behind m c) t.val (by omega) (by omega)]
  rw [if_neg (show ¬ t.val = 0 by omega), if_neg (show ¬ t.val + 1 = 0 by omega)]
  rw [if_pos ht, after0_4]
  rw [show infl m c (Ring.sl 2 t.val) (Ring.bk 8 (t.val - 2)) = iprop(FL0 (F := F) c (Ring.sl 2 t.val) (Ring.bk 8 (t.val - 2)) (blkAt m c (ptn (Ring.bk 8 (t.val - 2)).val)) ∗ FL1 (F := F) c (Ring.sl 2 t.val) (Ring.bk 8 (t.val - 2)) (blkAt m c (ptn (Ring.bk 8 (t.val - 2)).val))) from rfl]
  rw [show infl m c (Ring.sl 2 (t.val + 1)) (Ring.bk 8 (t.val - 1)) = iprop(FL0 (F := F) c (Ring.sl 2 (t.val + 1)) (Ring.bk 8 (t.val - 1)) (blkAt m c (ptn (Ring.bk 8 (t.val - 1)).val)) ∗ FL1 (F := F) c (Ring.sl 2 (t.val + 1)) (Ring.bk 8 (t.val - 1)) (blkAt m c (ptn (Ring.bk 8 (t.val - 1)).val))) from rfl]
  rw [show behind m c (Ring.bk 8 (t.val - 2)) = iprop(DN0 (F := F) c (Ring.bk 8 (t.val - 2)) (blkAt m c (ptn (Ring.bk 8 (t.val - 2)).val)) ∗ DN1 (F := F) c (Ring.bk 8 (t.val - 2)) (blkAt m c (ptn (Ring.bk 8 (t.val - 2)).val))) from rfl]
  rw [show behind m c (Ring.bk 8 (t.val - 1)) = iprop(DN0 (F := F) c (Ring.bk 8 (t.val - 1)) (blkAt m c (ptn (Ring.bk 8 (t.val - 1)).val)) ∗ DN1 (F := F) c (Ring.bk 8 (t.val - 1)) (blkAt m c (ptn (Ring.bk 8 (t.val - 1)).val))) from rfl]
  rw [show behind m c (Ring.bk 8 t.val) = iprop(DN0 (F := F) c (Ring.bk 8 t.val) (blkAt m c t) ∗ DN1 (F := F) c (Ring.bk 8 t.val) (blkAt m c t)) from by unfold behind; rw [ptn_bk]]
  unfold ahead free
  unfold Dat.owesAt Pipeline.owesWithin
  rw [show (dats m 0 c).owed t.castSucc = 0 from rfl, show (dats m 0 c).owed t.succ = 0 from rfl]
  iintro ⟨⟨⟨Htd, Hbe, ⟨Hg0, Hg1⟩, Hi0, Hi1⟩, Ha⟩, ⟨%W, -, HW⟩, ⟨%d0, Hn0⟩, ⟨%d1, Hn1⟩, ⟨%d2, Hn2⟩, ⟨%d3, Hn3⟩, ⟨%d4, H4⟩, ⟨%d5, H5⟩⟩
  iapply (run_last (F := F) c t ht (st0_0 t) _ (st0_1 t) _ (st0_2 t) _ (st0_3 t) _ (st0_4 t) _ (st0_5 t) _ (bX1 m c t) (bX2 m c t) (bX3 m c t) (bX4 m c t) (accAt m c t.val) (Ring.bk 8 (t.val - 2)) (Ring.bk 8 (t.val - 1)) (blkAt m c (ptn (Ring.bk 8 (t.val - 2)).val)) (blkAt m c (ptn (Ring.bk 8 (t.val - 1)).val)) W _)
  isplitl [Hn0]; · iexact Hn0
  isplitl [Hn1]; · iexact Hn1
  isplitl [Hn2]; · iexact Hn2
  isplitl [Hn3]; · iexact Hn3
  isplitl [H5]; · iexists _; iexact H5
  isplitl [Ha]; · iexact Ha
  isplitl [Htd]; · iexact Htd
  isplitl [Hg0]; · iexact Hg0
  isplitl [Hg1]; · iexact Hg1
  isplitl [Hi0]; · iexact Hi0
  isplitl [Hi1]; · iexact Hi1
  isplitl [H4]; · iexists _; iexact H4
  isplitl [HW]; · iexact HW
  iintro ⟨Hn0, Hn1, Hn2, Hn3, H5, Ha, H4, Hf0, Hf1, Hd0, Hd1, He0, He1, Hr0, Hr1, ⟨%W', HW'⟩⟩
  isplitl [Hbe Hf0 Hf1 Hd0 Hd1 He0 He1 Hr0 Hr1 Ha]
  · isplitl [Hbe Hf0 Hf1 Hd0 Hd1 He0 He1 Hr0 Hr1]
    · isplitr [Hr0 Hr1]
      · isplitl [Hf0 Hf1]
        · isplitl [Hf0]; · iexact Hf0
          iexact Hf1
        isplitl [Hd0 Hd1]
        · isplitl [Hd0]; · iexact Hd0
          iexact Hd1
        isplitl [He0 He1]
        · isplitl [He0]; · iexact He0
          iexact He1
        iexact Hbe
      isplitl [Hr0]; · iexact Hr0
      iexact Hr1
    rw [accAt_succ]; iexact Ha
  isplitl [HW']
  · iexists W'; isplitr; · ipureintro; exact fun _ _ => Or.inl trivial
    iexact HW'
  isplitl [Hn0]; · iexact Hn0
  isplitl [Hn1]; · iexact Hn1
  isplitl [Hn2]; · iexact Hn2
  isplitl [Hn3]; · iexact Hn3
  isplitl [H4]; · iexact H4
  iexact H5

theorem sound_body (c : Dev nD) (t : Fin cfg0.N) :
    bodyPre m c t ⊢ wp frame (wpE (defs₀ (F := F)) Variants.none c none) Set.univ (bodyAt0 t) (fun _ => bodyPost m c t) := by
  have hN : t.val < 8 := by have h : t.val < grid0.N := t.isLt; rwa [N_0] at h
  by_cases h0 : t.val = 0
  · exact body_first m c t h0
  by_cases h1 : t.val = 1
  · exact body_second m c t h1
  by_cases h7 : t.val = 7
  · exact body_last m c t h7
  exact body_steady m c t (by omega) (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have hN : t.val < 8 := by have h : t.val < grid0.N := t.isLt; rwa [N_0] at h
  rw [bigSep_W0, bigSep_W0, defs₀_row]
  refine triple_restated (sound_body m c t) rfl .rfl fun _ => ?_
  unfold bodyPost post4
  by_cases h7 : t.val = 7
  · have hi : idle0 4 (grid0.coords t) = false := by
      show (!(k0_cond2 (grid0.coords t) == 1#1)) = false
      rw [Bool.not_eq_false', beq_iff_eq]; exact (cond2_eq t).mpr h7
    rw [if_pos h7]; simp only [hi]; exact .rfl
  · have hi : idle0 4 (grid0.coords t) = true := by
      show (!(k0_cond2 (grid0.coords t) == 1#1)) = true
      rw [Bool.not_eq_true', beq_eq_false_iff_ne]; exact fun h => h7 ((cond2_eq t).mp h)
    have hf : (cfg0.win 4).flush t = false := by
      rw [← Bool.not_eq_true]; exact fun h => h7 (by have := (flush0_4 t).mp h; omega)
    rw [if_neg h7]; simp only [hi, hf]; exact .rfl

/-! ## Into and out of the invariant -/

/-- The result's contents at the end. -/
def outFinal (c : Dev nD) : OutBuf (F := F) c := assemble fun u => blkAt m c (ptn u.val)
/-- What the buffers the body writes end with. -/
def G (c : Dev nD) : (b : Ref sig .tc) → Buf (Elt F) ((c : Thread nD τ).loc b) :=
  Function.update (fun b => V m c b) main_v0_0 (outFinal m c)
theorem G_out (c : Dev nD) : G m c main_v0_0 = outFinal m c := Function.update_self ..

theorem ringR0 (c : Dev nD) (f : (b : Ref sig .tc) → Buf (Elt F) ((c : Thread nD τ).loc b)) :
    (bigSep R0 (fun b => ((c : Thread nD τ).loc b) ↦{fullShare} f b) : sProp 𝕄) = (((c : Thread nD τ).loc main_v0_0) ↦{fullShare} f main_v0_0 : sProp 𝕄) := by
  rw [BI.bigSep_eq_bigSepL_of_eq [main_v0_0] (by decide) (by decide)]; rfl

theorem todo_of (c : Dev nD) (f : OutBuf (F := F) c) :
    (((c : Thread nD τ).loc main_v0_0) ↦{fullShare} f : sProp 𝕄) ⊢ bigSep Finset.univ (ahead (F := F) c) := by
  rw [out_split]
  refine BI.bigSep_mono fun u _ => ?_
  show (iprop(piece0P (F := F) c u f ∗ piece1P (F := F) c u f) : sProp 𝕄) ⊢ iprop((∃ f, piece0P (F := F) c u f) ∗ ∃ f, piece1P (F := F) c u f)
  iintro ⟨H0, H1⟩
  isplitl [H0]; · iexists _; iexact H0
  iexists _; iexact H1
theorem of_done (c : Dev nD) :
    bigSep Finset.univ (behind m c) ⊢ (((c : Thread nD τ).loc main_v0_0) ↦{fullShare} outFinal m c : sProp 𝕄) := by
  rw [out_split]
  refine BI.bigSep_mono fun u _ => ?_
  show (iprop((∃ f, ⌜(piece0 u).view.read (Elt F) f = cols0 (blkAt m c (ptn u.val))⌝ ∗ piece0P (F := F) c u f)
      ∗ ∃ f, ⌜(piece1 u).view.read (Elt F) f = cols1 (blkAt m c (ptn u.val))⌝ ∗ piece1P (F := F) c u f) : sProp 𝕄)
    ⊢ iprop(piece0P (F := F) c u (outFinal m c) ∗ piece1P (F := F) c u (outFinal m c))
  iintro ⟨⟨%f0, %h0, H0⟩, ⟨%f1, %h1, H1⟩⟩
  isplitl [H0]
  · have e : piece0P (F := F) c u f0 = piece0P (F := F) c u (outFinal m c) :=
      (piece0P_eq c u f0).trans ((pointsTo_congr (piece0_agree u f0 (fun u => blkAt m c (ptn u.val)) h0)).trans (piece0P_eq c u _).symm)
    iapply (Entails.of_eq e); iexact H0
  · have e : piece1P (F := F) c u f1 = piece1P (F := F) c u (outFinal m c) :=
      (piece1P_eq c u f1).trans ((pointsTo_congr (piece1_agree u f1 (fun u => blkAt m c (ptn u.val)) h1)).trans (piece1P_eq c u _).symm)
    iapply (Entails.of_eq e); iexact H1

theorem hin (c : Dev nD) : Pipeline.ΦDRV osem0 spec0 ∅ R0 (fun c b => V m c b) (fun c b => V m c b) c ⊢ (dats m 0 c).Φ 0 := by
  rw [Phi_eq]
  unfold Pipeline.ΦDRV ΦAt acc
  rw [Fin.val_zero, if_pos rfl, Ring.AtBΦ_lt _ _ _ _ _ 0 (by decide), Ring.AtB_zero, scopedRest0_eq, ownSems00_eq, ringR0, BI.bigSep_empty]
  unfold Ring.AtB₀
  rw [Ring.bigSep_fin2]
  unfold free REST
  rw [cellR0_0, cellR0_1, cellR1_0, cellR1_1]
  iintro ⟨⟨⟨%e, Hs⟩, ⟨%a, Ha⟩⟩, ⟨Hq0, Hq1, Hq2, Hq3⟩, -, Ho⟩
  ihave Hs := (sc_split (F := F) c e) $$ [Hs]
  · iexact Hs
  icases Hs with ⟨Hs0, Hs1⟩
  isplitr [Ha]
  · isplitl [Ho]
    · iapply (todo_of (F := F) c _); iexact Ho
    isplitl [Hq0 Hq2 Hs0]
    · isplitl [Hq0]; · iexact Hq0
      isplitl [Hq2]; · iexact Hq2
      iexists _; iexact Hs0
    · isplitl [Hq1]; · iexact Hq1
      isplitl [Hq3]; · iexact Hq3
      iexists _; iexact Hs1
  · iexists _
    rw [owns_whole]
    iexact Ha

theorem hout (c : Dev nD) : (dats m 0 c).Φ (Fin.last cfg0.N) ⊢ Pipeline.ΦDRV osem0 spec0 ∅ R0 (fun c b => V m c b) (G m) c := by
  rw [Phi_eq]
  unfold Pipeline.ΦDRV ΦAt acc
  rw [Fin.val_last, show cfg0.N = 8 from N_0, if_neg (by decide), Ring.AtBΦ_end _ _ _ _ _ 8 rfl, scopedRest0_eq, ownSems00_eq, ringR0, BI.bigSep_empty, G_out]
  unfold Ring.AtBEnd
  rw [Ring.bigSep_fin2]
  unfold free REST
  rw [cellR0_0, cellR0_1, cellR1_0, cellR1_1, owns_whole]
  iintro ⟨⟨Ho, ⟨Hq0, Hq2, ⟨%e0, Hs0⟩⟩, ⟨Hq1, Hq3, ⟨%e1, Hs1⟩⟩⟩, Ha⟩
  isplitl [Hs0 Hs1 Ha]
  · isplitl [Hs0 Hs1]
    · iapply (sc_join (F := F) c e0 e1)
      isplitl [Hs0]; · iexact Hs0
      iexact Hs1
    · iexists _; iexact Ha
  isplitl [Hq0 Hq1 Hq2 Hq3]
  · isplitl [Hq0]; · iexact Hq0
    isplitl [Hq1]; · iexact Hq1
    isplitl [Hq2]; · iexact Hq2
    iexact Hq3
  isplitr
  · iempintro
  iapply (of_done m c); iexact Ho

/-! ## The run -/

set_option backward.isDefEq.respectTransparency.types false in
theorem run_main : θ_run defs (onTc (τ := τ) (main (F := F))) (s₀ m ρ) (fun r => (∀ c : Dev nD,
      (∀ w, r.2.mem ((spec0 w).arr.view.loc (c : Thread nD τ)) = (dats m 0 c).arrAt w cfg0.N)
      ∧ ∀ b ∈ Pipeline.restRefs sig spec0, r.2.mem ((c : Thread nD τ).loc b)
          = StableHlo.after ([hostOps1] : List (List (HloOp τ sig (Elt F)))).flatten (Pipeline.withArrays spec0 c (Pipeline.withR (V0 m c) R0 c (G m c)) fun w => (dats m 0 c).arrAt w cfg0.N) (Proc.devRef .tc b))
      ∧ r.2.sem = fun _ => 0) :=
  Pipeline.θ_run_frame_dmaR_aroundV (Q' := _) (hQ' := fun _ h => h) cfgs (dats m) (0 : Fin 1) launch0 osem0 defs₀ Variants.none ownSemFacts0 ∅ R0 (by decide) R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := A_eq m) (hin := hin m) (hout := hout m)

/-! ## What the program ends with -/

theorem hostOps1_keeps (b : Ref sig .tc) (h : b ≠ main_v0_1) (W : Valuation τ sig (Elt F)) :
    StableHlo.after ([hostOps1] : List (List (HloOp τ sig (Elt F)))).flatten W (Proc.devRef .tc b) = W (Proc.devRef .tc b) := by
  refine StableHlo.after_of_forall_not_mem (b := Proc.devRef .tc b) _ _ (List.forall_iff_forall_mem.mp ?_)
  simp only [hostOps1, List.flatten_cons, List.flatten_nil, List.append_nil, List.Forall, StableHlo.reshape_writes, Finset.mem_singleton]
  exact StableHlo.devRef_ne_of_ne h

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans
        ((hostOps1_keeps main_arg3 (by decide) _).trans
          ((Pipeline.withArrays_of_ne _ c _ _ main_arg3 (by exact (by decide : ∀ w, Pipeline.arrRef spec0 w ≠ main_arg3))).trans
            ((Pipeline.withR_of_not_mem _ R0 c _ main_arg3 (by decide)).trans (V_main_arg3 m c))))⟩, h.2⟩) (run_main m ρ)

end Cert.KernelIdeal.Hand

end
-- ==== Proof.ValI.lean ====
/-
  What the kernel leaves in its three results, from what each grid point leaves in its windows.
-/
module

public import proofs.«01_k».proof.Proof.FrameI
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The four arguments. -/
def aX : Vec Ideal S8192x2048 .f32 := m ((c.tc : Thread nD τ).loc main_arg0)
def aW : Vec Ideal S2048x64 .f32 := m ((c.tc : Thread nD τ).loc main_arg1)
def aH : Vec Ideal S64x2000 .f32 := m ((c.tc : Thread nD τ).loc main_arg2)
def aB : Vec Ideal S2000 .f32 := m ((c.tc : Thread nD τ).loc main_arg3)

theorem pt_lt (t : Fin cfg0.N) : t.val < 8 := by
  have h : t.val < grid0.N := t.isLt
  rwa [N_0] at h

/-- Row `r` of point `t`. -/
def row (t : Fin cfg0.N) (r : Fin 1024) : Fin 8192 := ⟨1024 * t.val + r.val, by have := pt_lt t; omega⟩

theorem bX1_at (t : Fin cfg0.N) (r : Fin 1024) (k : Fin 2048) : bX1 m c t (ix2 r k) = aX m c (ix2 (row t r) k) := by
  unfold aX row
  blk_ext [iblk, V, idx t]

theorem bX2_eq (t : Fin cfg0.N) : bX2 m c t = aW m c := by
  unfold aW
  blk_ext! [iblk, V, idx t]

theorem bX3_eq (t : Fin cfg0.N) : bX3 m c t = aH m c := by
  unfold aH
  blk_ext! [iblk, V, idx t]

/-- The bias, as the first host operation lays it out. -/
theorem V_bias : V m c main_call0_v0 = shapeCast S1x2000 (aB m c) shapeCasts_S2000_S1x2000 := by
  show StableHlo.after [hostOps0].flatten (fun b => m (c, b)) (Proc.devRef .tc main_call0_v0) = _
  simp only [hostOps0, List.flatten_cons, List.flatten_nil, List.append_nil, StableHlo.after_cons, StableHlo.after_nil]
  refine (StableHlo.reshape_result main_arg3 main_call0_v0 (by decide) (by decide) (by decide) (by decide) _).trans ?_
  rfl

theorem bX4_at (t : Fin cfg0.N) (j : Fin 2000) : bX4 m c t (ix2 0 j) = aB m c (ix1 j) := by
  show V m c main_call0_v0 (((cfg0.win 3).blk t).view.emb (ix2 0 j)) = _
  have e : ((cfg0.win 3).blk t).view.emb (ix2 0 j) = (ix2 0 j : S1x2000.Idx) := by blk_ext [idx t]
  rw [V_bias, e]
  pointwise []

/-- The index array: each point writes its own rows. -/
theorem final5 (R : IVec S8192x2 32) (h : ∀ t : Fin cfg0.N, ∀ r : Fin 1024, ∀ k : Fin 2,
      k0_pay6 (F := Ideal) (bX1 m c t) (bX2 m c t) (ix2 r k) = R (ix2 (row t r) k)) :
    (dats m 0 c).arrAt 5 cfg0.N = R := by
  refine (dats m 0 c).arrAt_eq_of_covers 5 _ (by decide +kernel) fun t _ y => ?_
  blk_simp
  rw [after0_5, idx2_eta y]
  refine (h t _ _).trans ?_
  unfold row
  blk_ext [idx t]
  all_goals
    show 1024 * t.val + (y 0).val = t.val * 1024 + (y 0).val
    omega

/-- The one written value of the loss's array. -/
theorem final4 (v : EReal) (h : ∀ t : Fin cfg0.N, t.val = 7 → ∀ i k : Fin 1, auxOut (F := Ideal) (bX1 m c t) (bX2 m c t) (accAt m c t.val) (ix2 i k) = v) :
    (dats m 0 c).arrAt 4 cfg0.N = fun _ => v := by
  refine (dats m 0 c).arrAt_eq_of_covers 4 _ (by decide +kernel) fun t hf y => ?_
  blk_simp
  rw [after0_4, idx2_eta y]
  have h8 := (flush0_4 t).mp hf
  exact h t (by have := pt_lt t; omega) _ _

/-- The result assembled from the blocks. -/
theorem final_out (R : Vec Ideal S8192x2000 .f32) (h : ∀ t : Fin cfg0.N, ∀ r : Fin 1024, ∀ j : Fin 2000,
      blkAt m c t (ix3 0 r j) = R (ix2 (row t r) j)) : outFinal m c = R := by
  funext y
  have hy : (y 0).val < 8192 := (y 0).isLt
  have e : y = ix2 (⟨1024 * ((y 0).val / 1024) + (y 0).val % 1024, by omega⟩ : Fin 8192) (y 1) := by
    conv_lhs => rw [idx2_eta y]
    exact congrArg (fun a => ix2 a (y 1)) (Fin.ext (Nat.div_add_mod _ _).symm)
  rw [e]
  unfold outFinal
  refine (assemble_at _ (⟨(y 0).val / 1024, by omega⟩ : Fin 8) ⟨(y 0).val % 1024, by omega⟩ (y 1)).trans ((h _ _ _).trans ?_)
  refine congrArg (fun a => R (ix2 a (y 1))) (Fin.ext ?_)
  show 1024 * ((y 0).val / 1024 % 8) + (y 0).val % 1024 = 1024 * ((y 0).val / 1024) + (y 0).val % 1024
  omega

/-- The last host operation copies the loss into the second result. -/
theorem hostOps1_out (W : Valuation τ sig (Elt Ideal)) (v : EReal) (h : W (Proc.devRef .tc main_call0_v1_1) = fun _ => v) :
    StableHlo.after ([hostOps1] : List (List (HloOp τ sig (Elt Ideal)))).flatten W (Proc.devRef .tc main_v0_1) = fun _ => v := by
  simp only [hostOps1, List.flatten_cons, List.flatten_nil, List.append_nil, StableHlo.after_cons, StableHlo.after_nil]
  refine (StableHlo.reshape_result main_call0_v1_1 main_v0_1 (by decide) (by decide) (by decide) (by decide) W).trans ?_
  rw [h]
  rfl

/-- The run, its three results named by what every point leaves. -/
theorem run_vals (ρ : Dev nD → PrngReg) (R0' : Dev nD → Vec Ideal S8192x2000 .f32) (R1' : Dev nD → EReal) (R2' : Dev nD → IVec S8192x2 32)
    (h0 : ∀ c, ∀ t : Fin cfg0.N, ∀ r : Fin 1024, ∀ j : Fin 2000, blkAt m c t (ix3 0 r j) = R0' c (ix2 (row t r) j))
    (h1 : ∀ c, ∀ t : Fin cfg0.N, t.val = 7 → ∀ i k : Fin 1, auxOut (F := Ideal) (bX1 m c t) (bX2 m c t) (accAt m c t.val) (ix2 i k) = R1' c)
    (h2 : ∀ c, ∀ t : Fin cfg0.N, ∀ r : Fin 1024, ∀ k : Fin 2, k0_pay6 (F := Ideal) (bX1 m c t) (bX2 m c t) (ix2 r k) = R2' c (ix2 (row t r) k)) :
    θ_run (defs (F := Ideal)) (onTc (τ := τ) (main (F := Ideal))) ⟨m, fun _ => 0, ρ⟩ fun r => ∀ c : Dev nD,
      r.2.mem ((c.tc : Thread nD τ).loc main_v0_0) = R0' c
      ∧ r.2.mem ((c.tc : Thread nD τ).loc main_v0_1) = (fun _ => R1' c)
      ∧ r.2.mem ((c.tc : Thread nD τ).loc main_v0_2) = R2' c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨?_, ?_, ?_, ?_⟩) (run_main m ρ)
  · exact ((h.1 c).2 main_v0_0 (Pipeline.mem_restRefs_of main_v0_0 (by decide) (by decide))).trans
        ((hostOps1_keeps main_v0_0 (by decide) _).trans
          ((Pipeline.withArrays_of_ne _ c _ _ main_v0_0 (by exact (by decide : ∀ w, Pipeline.arrRef spec0 w ≠ main_v0_0))).trans
            ((Pipeline.withR_of_mem _ R0 c _ main_v0_0 (by decide)).trans ((G_out m c).trans (final_out m c _ (h0 c))))))
  · refine ((h.1 c).2 main_v0_1 (Pipeline.mem_restRefs_of main_v0_1 (by decide) (by decide))).trans ?_
    refine hostOps1_out _ _ ((Pipeline.withArrays_arr spec0 (by decide) c _ _ 4).trans (final4 m c _ (h1 c)))
  · exact ((h.1 c).1 5).trans (final5 m c _ (h2 c))
  · exact ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans
        ((hostOps1_keeps main_arg3 (by decide) _).trans
          ((Pipeline.withArrays_of_ne _ c _ _ main_arg3 (by exact (by decide : ∀ w, Pipeline.arrRef spec0 w ≠ main_arg3))).trans
            ((Pipeline.withR_of_not_mem _ R0 c _ main_arg3 (by decide)).trans (V_main_arg3 m c))))⟩

end Cert.KernelIdeal.Hand
-- ==== Proof.RefI.lean ====
/-
  The reference's three results, read at an index: the softmax of the row of router products, the two greatest
  positions of it, the balance loss, and the head's product with its bias.
-/
module

public import proofs.«01_k».proof.Proof.Spec
public import proofs.«01_k».proof.Proof.Gen.ReferenceIdeal.Run

@[expose] public section

set_option maxRecDepth 16384

noncomputable section

namespace Cert.ReferenceIdeal.Hand

open Cert.ReferenceIdeal Cert.ReferenceIdeal.Gen Cert.Top2
open Idealize.ShloMosaic Idealize.ShloMosaic.TcCoe Idealize.SL.Sem

/-- The router's shares. -/
def share (X : FVec Ideal S8192x2048 .f32) (W : FVec Ideal S2048x64 .f32) : FVec Ideal S8192x64 .f32 :=
  let v0 : FVec Ideal S8192x64 .f32 := Host.dotGeneral dot_S8192x2048_S2048x64_S8192x64_1_0_0_1_n_n none X W
  let v3 : FVec Ideal S8192 .f32 := maximumf (broadcastInDim S8192 ![] bcast_S_S8192 (constant S_ .f32 0xFF800000#32)) (Host.reduce FloatOps.maximumf v0 (constant S_ .f32 0xFF800000#32) reducesTo_S8192x64_S8192_d1 h_S_)
  let v7 : FVec Ideal S8192x64 .f32 := Host.exp (subf v0 (broadcastInDim S8192x64 ![0, 1] bcast_S8192x1_S8192x64_0_1 (broadcastInDim S8192x1 ![0] bcast_S8192_S8192x1_0 v3)))
  Host.divf v7 (broadcastInDim S8192x64 ![0, 1] bcast_S8192x1_S8192x64_0_1 (broadcastInDim S8192x1 ![0] bcast_S8192_S8192x1_0 (Host.reduceAdd v7 (constant S_ .f32 0x00000000#32) reducesTo_S8192x64_S8192_d1 h_S_)))

/-- The chosen positions. -/
def chosen (P : FVec Ideal S8192x64 .f32) : IVec S8192x2 32 :=
  (Host.topK S8192x2 1 (FloatOps.cmpfTotal .gt) P sliceFits_S8192x64_S8192x2).2

/-- The balance loss. -/
def loss (P : FVec Ideal S8192x64 .f32) (ind : IVec S8192x2 32) : FVec Ideal S_ .f32 :=
  let v12 : FVec Ideal S8192x2x64 .f32 := uitofp .f32 (cmpi .eq (broadcastInDim S8192x2x64 ![0, 1, 2] bcast_S8192x2x1_S8192x2x64_0_1_2 (broadcastInDim S8192x2x1 ![0, 1] bcast_S8192x2_S8192x2x1_0_1 ind)) (broadcastInDim S8192x2x64 ![0, 1, 2] bcast_S1x1x64_S8192x2x64_0_1_2 (iotaInDim S1x1x64 32 2)))
  let v14 : FVec Ideal S64 .f32 := Host.reduceAdd (Host.reduceAdd v12 (constant S_ .f32 0x00000000#32) reducesTo_S8192x2x64_S8192x64_d1 h_S_) (constant S_ .f32 0x00000000#32) reducesTo_S8192x64_S64_d0 h_S_
  let v18 : FVec Ideal S64 .f32 := Host.divf (Host.divf v14 (broadcastInDim S64 ![] bcast_S_S64 (constant S_ .f32 0x46000000#32))) (broadcastInDim S64 ![] bcast_S_S64 (constant S_ .f32 0x40000000#32))
  let v21 : FVec Ideal S64 .f32 := Host.divf (Host.reduceAdd P (constant S_ .f32 0x00000000#32) reducesTo_S8192x64_S64_d0 h_S_) (broadcastInDim S64 ![] bcast_S_S64 (constant S_ .f32 0x46000000#32))
  mulf (constant S_ .f32 0x42800000#32) (Host.reduceAdd (mulf v18 v21) (constant S_ .f32 0x00000000#32) reducesTo_S64_S_d0 h_S_)

/-- The head's result. -/
def head (P : FVec Ideal S8192x64 .f32) (H : FVec Ideal S64x2000 .f32) (b : FVec Ideal S2000 .f32) : FVec Ideal S8192x2000 .f32 :=
  addf (Host.dotGeneral dot_S8192x64_S64x2000_S8192x2000_1_0_0_1_n_n none P H)
    (broadcastInDim S8192x2000 ![0, 1] bcast_S1x2000_S8192x2000_0_1 (broadcastInDim S1x2000 ![1] bcast_S2000_S1x2000_1 b))

theorem share_at (X : FVec Ideal S8192x2048 .f32) (W : FVec Ideal S2048x64 .f32) (r : Fin 8192) (j : Fin 64) :
    share X W (ix2 r j) = sm (fun x => ∑ k : Fin 2048, X (ix2 r k) * W (ix2 k x)) j := by
  pointwise [share]
  have h := max_low (fun x => ∑ k : Fin 2048, X (ix2 r k) * W (ix2 k x))
  unfold mx at h
  rw [h]
  rfl

theorem gt_eq (a b : EReal) : (FloatOps.cmpfTotal (F := Ideal) (φ := FTy.f32) CmpDirection.gt a b == 1#1) = decide (b < a) := by
  show (BitVec.ofBool (decide (b < a)) == 1#1) = decide (b < a)
  by_cases h : b < a <;> simp [h]

theorem chosen_at (P : FVec Ideal S8192x64 .f32) (r : Fin 8192) (k : Fin 2) :
    chosen P (ix2 r k) = BitVec.ofNat 32 (sortedFrom (before fun x => P (ix2 r x)) (k.castLE (by decide : 2 ≤ 64))).val := by
  unfold chosen Host.topK Host.sort2
  pointwise []
  have ha : ∀ x : Fin 64, (ix2 r ((k.castLE (by decide : 2 ≤ 64)) : Fin 64) : S8192x64.Idx).along 1 x = ix2 r x := fun x => by
    funext d; refine Fin.cases ?_ (fun d => ?_) d
    · rfl
    · obtain rfl : d = 0 := Subsingleton.elim _ _
      rfl
  have hb : (fun a b : Fin 64 => FloatOps.cmpfTotal (F := Ideal) (φ := FTy.f32) CmpDirection.gt
      (P ((ix2 r ((k.castLE (by decide : 2 ≤ 64)) : Fin 64) : S8192x64.Idx).along 1 a)) (P ((ix2 r ((k.castLE (by decide : 2 ≤ 64)) : Fin 64) : S8192x64.Idx).along 1 b)) == 1#1)
      = before fun x => P (ix2 r x) := by
    funext a b
    rw [ha, ha]
    exact gt_eq _ _
  have hv : ∀ (y : Fin 64), BitVec.ofNat 32 ((ix2 r ((k.castLE (by decide : 2 ≤ 64)) : Fin 64) : S8192x64.Idx).along 1 y 1).val = BitVec.ofNat 32 y.val :=
    fun y => by rw [ha]; rfl
  refine (hv _).trans ?_
  rw [← hb]
  rfl

theorem loss_at (P : FVec Ideal S8192x64 .f32) (I : IVec S8192x2 32) (i : S_.Idx) :
    loss P I i = Ideal.ofBits FTy.f32 0x42800000#32 * ∑ e : Fin 64,
      Ideal.div (Ideal.div (∑ r : Fin 8192, ∑ k : Fin 2, FloatOps.uitofp (F := Ideal) FTy.f32 (IntOp.cmpi CmpIPredicate.eq (I (ix2 r k)) (BitVec.ofNat 32 e.val)))
        (Ideal.ofBits FTy.f32 0x46000000#32)) (Ideal.ofBits FTy.f32 0x40000000#32)
        * Ideal.div (∑ r : Fin 8192, P (ix2 r e)) (Ideal.ofBits FTy.f32 0x46000000#32) := by
  pointwise [loss]

theorem head_at (P : FVec Ideal S8192x64 .f32) (H : FVec Ideal S64x2000 .f32) (b : FVec Ideal S2000 .f32) (r : Fin 8192) (j : Fin 2000) :
    head P H b (ix2 r j) = ∑ k : Fin 64, P (ix2 r k) * H (ix2 k j) + b (ix1 j) := by
  pointwise [head]

/-- The run of the reference, its results named. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28) = head (share (m ((c.tc : Thread nD τ).loc main_arg0)) (m ((c.tc : Thread nD τ).loc main_arg1))) (m ((c.tc : Thread nD τ).loc main_arg2)) (m ((c.tc : Thread nD τ).loc main_arg3))
      ∧ r.2.mem ((c.tc : Thread nD τ).loc main_v24) = loss (share (m ((c.tc : Thread nD τ).loc main_arg0)) (m ((c.tc : Thread nD τ).loc main_arg1))) (chosen (share (m ((c.tc : Thread nD τ).loc main_arg0)) (m ((c.tc : Thread nD τ).loc main_arg1))))
      ∧ r.2.mem ((c.tc : Thread nD τ).loc main_indices) = chosen (share (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

end Cert.ReferenceIdeal.Hand
-- ==== Proof.AlgI.lean ====
/-
  The kernel's three results are the reference's: what each grid point leaves is the reference's result at the point's rows.
-/
module

public import proofs.«01_k».proof.Proof.Real
public import proofs.«01_k».proof.Proof.PayI
public import proofs.«01_k».proof.Proof.ValI
public import proofs.«01_k».proof.Proof.RefI

@[expose] public section

set_option maxRecDepth 16384

noncomputable section

namespace Cert.KernelIdeal.Hand

open Cert.KernelIdeal Cert.KernelIdeal.Gen Cert.Top2 Cert.ReferenceIdeal.Hand
open Idealize.ShloMosaic Idealize.ShloMosaic.TcCoe Idealize.SL.Sem

variable (m : (ℓ : Loc nD τ sig) → Buf (Elt Ideal) ℓ) (c : Dev nD)

/-- The reference's shares of the kernel's arguments. -/
def sh : FVec Ideal Cert.ReferenceIdeal.S8192x64 .f32 := share (aX m c) (aW m c)

/-- A row of router products of the whole array. -/
def rowL (R : Fin 8192) (j : Fin 64) : EReal := ∑ k : Fin 2048, aX m c (ix2 R k) * aW m c (ix2 k j)

theorem lg_eq (t : Fin cfg0.N) (r : Fin 1024) : lg (bX1 m c t) (bX2 m c t) r = rowL m c (row t r) := by
  funext j
  unfold lg rowL
  exact Finset.sum_congr rfl fun k _ => by rw [bX1_at, bX2_eq]

theorem sh_at (R : Fin 8192) (j : Fin 64) : sh m c (ix2 R j) = sm (rowL m c R) j := share_at _ _ R j

theorem pay1_sh (t : Fin cfg0.N) (r : Fin 1024) (j : Fin 64) :
    k0_pay1 (F := Ideal) (bX1 m c t) (bX2 m c t) (ix2 r j) = sh m c (ix2 (row t r) j) := by
  rw [pay1_at, sh_at, lg_eq]

/-- The first result, block by block. -/
theorem h0 (t : Fin cfg0.N) (r : Fin 1024) (j : Fin 2000) :
    blkAt m c t (ix3 0 r j) = head (sh m c) (aH m c) (aB m c) (ix2 (row t r) j) := by
  unfold blkAt
  refine (blk_at _ _ _ _ 0 r j).trans ((head_at _ _ _ _ j).trans ?_).symm
  refine congrArg₂ (· + ·) (Finset.sum_congr rfl fun k _ => ?_) (bX4_at m c t j).symm
  rw [pay1_sh, bX3_eq]

/-- The rows are finite where the two router arguments are. -/
theorem rowL_real (hX : ∀ i, Re (aX m c i)) (hW : ∀ i, Re (aW m c i)) (R : Fin 8192) (j : Fin 64) : Re (rowL m c R j) :=
  Re.sum fun k => (hX _).mul (hW _)

/-- The third result, block by block. -/
theorem h2 (hX : ∀ i, Re (aX m c i)) (hW : ∀ i, Re (aW m c i)) (t : Fin cfg0.N) (r : Fin 1024) (k : Fin 2) :
    k0_pay6 (F := Ideal) (bX1 m c t) (bX2 m c t) (ix2 r k) = chosen (sh m c) (ix2 (row t r) k) := by
  have e : (fun x => sh m c (ix2 (row t r) x)) = sm (rowL m c (row t r)) := funext fun x => sh_at m c _ x
  rw [pay6_at, lg_eq]
  refine Eq.trans ?_ (chosen_at (sh m c) (row t r) k).symm
  rw [e, two _ (sm_nonneg (rowL_real m c hX hW _)) k]

theorem pay8_at (i : Fin 2) (e : Fin 64) : k0_pay8 (F := Ideal) (ix2 i e) = 0 := by pointwise [k0_pay8]

theorem acc_cnt (e : Fin 64) (n : ℕ) : accAt m c n (ix2 0 e) = ∑ u ∈ Finset.range n, cnt (bX1 m c (ptn u)) (bX2 m c (ptn u)) e := by
  induction n with
  | zero => exact (pay8_at 0 e).trans (Finset.sum_range_zero _).symm
  | succ n ih => rw [Finset.sum_range_succ, ← ih]; exact step_cnt _ _ _ e

theorem acc_spr (e : Fin 64) (n : ℕ) : accAt m c n (ix2 1 e) = ∑ u ∈ Finset.range n, spr (bX1 m c (ptn u)) (bX2 m c (ptn u)) e := by
  induction n with
  | zero => exact (pay8_at 1 e).trans (Finset.sum_range_zero _).symm
  | succ n ih => rw [Finset.sum_range_succ, ← ih]; exact step_spr _ _ _ e

/-- A sum over the points of a sum over their rows is the sum over all rows. -/
theorem sum_rows (f : Fin 8192 → EReal) : ∑ u ∈ Finset.range 8, ∑ r : Fin 1024, f (row (ptn u) r) = ∑ R : Fin 8192, f R := by
  rw [Finset.sum_range, Fin.sum_univ_tiles 8 1024 rfl f]
  refine Finset.sum_congr rfl fun u _ => Finset.sum_congr rfl fun r _ => congrArg f (Fin.ext ?_)
  show 1024 * (u.val % 8) + r.val = u.val * 1024 + r.val
  omega

/-- How often an expert is chosen, and the sum of its shares. -/
def allCnt (e : Fin 64) : EReal :=
  ∑ r : Fin 8192, ∑ k : Fin 2, FloatOps.uitofp (F := Ideal) FTy.f32 (IntOp.cmpi .eq (chosen (sh m c) (ix2 r k)) (BitVec.ofNat 32 e.val))
def allSpr (e : Fin 64) : EReal := ∑ r : Fin 8192, sh m c (ix2 r e)

theorem acc8_cnt (hX : ∀ i, Re (aX m c i)) (hW : ∀ i, Re (aW m c i)) (e : Fin 64) : accAt m c 8 (ix2 0 e) = allCnt m c e := by
  rw [acc_cnt]
  refine Eq.trans ?_ (sum_rows fun R => ∑ k : Fin 2, FloatOps.uitofp (F := Ideal) FTy.f32 (IntOp.cmpi .eq (chosen (sh m c) (ix2 R k)) (BitVec.ofNat 32 e.val)))
  refine Finset.sum_congr rfl fun u _ => Finset.sum_congr rfl fun r _ => Finset.sum_congr rfl fun k _ => ?_
  rw [h2 m c hX hW]

theorem acc8_spr (e : Fin 64) : accAt m c 8 (ix2 1 e) = allSpr m c e := by
  rw [acc_spr]
  refine Eq.trans ?_ (sum_rows fun R => sh m c (ix2 R e))
  exact Finset.sum_congr rfl fun u _ => Finset.sum_congr rfl fun r _ => pay1_sh m c _ r e

theorem uitofp_real (b : BitVec 1) : Re (FloatOps.uitofp (F := Ideal) FTy.f32 b) := ⟨((b.toNat : ℕ) : ℝ), rfl⟩

theorem allCnt_real (e : Fin 64) : Re (allCnt m c e) := Re.sum fun _ => Re.sum fun _ => uitofp_real _

theorem allSpr_real (hX : ∀ i, Re (aX m c i)) (hW : ∀ i, Re (aW m c i)) (e : Fin 64) : Re (allSpr m c e) :=
  Re.sum fun r => by
    rw [sh_at]
    exact Re.sm (rowL_real m c hX hW _) e

/-- The second result. -/
theorem h1 (hX : ∀ i, Re (aX m c i)) (hW : ∀ i, Re (aW m c i)) (t : Fin cfg0.N) (ht : t.val = 7) (i k : Fin 1) (z : S_.Idx) :
    auxOut (F := Ideal) (bX1 m c t) (bX2 m c t) (accAt m c t.val) (ix2 i k) = loss (sh m c) (chosen (sh m c)) z := by
  have hl : auxOut (F := Ideal) (bX1 m c t) (bX2 m c t) (accAt m c t.val) (ix2 i k)
      = Ideal.ofBits FTy.f32 0x35000000#32 * ∑ e : Fin 64, allCnt m c e * allSpr m c e := by
    rw [aux_at, ← accAt_succ, ht]
    refine congrArg (Ideal.ofBits FTy.f32 0x35000000#32 * ·) (Finset.sum_congr rfl fun e _ => ?_)
    rw [acc8_cnt m c hX hW, acc8_spr]
  have hr : loss (sh m c) (chosen (sh m c)) z
      = Ideal.ofBits FTy.f32 0x42800000#32 * ∑ e, Ideal.div (Ideal.div (allCnt m c e) (Ideal.ofBits FTy.f32 0x46000000#32))
          (Ideal.ofBits FTy.f32 0x40000000#32) * Ideal.div (allSpr m c e) (Ideal.ofBits FTy.f32 0x46000000#32) := by
    unfold allCnt allSpr
    exact loss_at (sh m c) (chosen (sh m c)) z
  exact hl.trans ((aux_eq (allCnt m c) (allSpr m c) (allCnt_real m c) (allSpr_real m c hX hW)).trans hr.symm)

/-- The run: the three results are the reference's at the kernel's arguments. -/
theorem run_alg (hX : ∀ c i, Re (aX m c i)) (hW : ∀ c i, Re (aW m c i)) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0_0) = head (sh m c) (aH m c) (aB m c)
      ∧ r.2.mem ((c.tc : Thread nD τ).loc main_v0_1) = loss (sh m c) (chosen (sh m c))
      ∧ r.2.mem ((c.tc : Thread nD τ).loc main_v0_2) = chosen (sh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1, (h c).2.1.trans ?_, (h c).2.2⟩)
    (run_vals m ρ (fun c => head (sh m c) (aH m c) (aB m c)) (fun c => loss (sh m c) (chosen (sh m c)) default)
      (fun c => chosen (sh m c)) (fun c => h0 m c) (fun c t ht i k => h1 m c (hX c) (hW c) t ht i k _) fun c => h2 m c (hX c) (hW c))
  funext z
  exact congrArg _ (Subsingleton.elim _ _)

end Cert.KernelIdeal.Hand
-- ==== Proof.lean ====
/-
  The claims of this directory, each from the module that proves it: the runs of the two printings of the kernel
  (Proof/Frame.lean, Proof/FrameI.lean), the reference's run as a list of host operations (Proof/RefI.lean), and the
  equality of the three results (Proof/AlgI.lean).
-/
module

public import proofs.«01_k».proof.Defs
public import proofs.«01_k».proof.Proof.Frame
public import proofs.«01_k».proof.Proof.AlgI

@[expose] public section

set_option maxRecDepth 16384

noncomputable section

namespace Cert.Proof

open Idealize.ShloMosaic Idealize.SL.Sem

/-- The precondition's two broadcasts of a scalar. -/
theorem facts_pre : Cert.Pre_finite_rows.Facts := ⟨by decide, by decide⟩

/-- The reference ends with its arguments as they were; it declares no semaphore. -/
theorem frame_r [Cert.ReferenceIdeal.Facts] : Cert.quiescent_ReferenceIdeal := by
  intro m ρ _
  exact (θ_run Cert.ReferenceIdeal.defs _ _).mono
    (fun r h => ⟨fun c => (h c).2.2.2, sem_eq_zero_of_no_sems (by decide) r.2⟩)
    (Cert.ReferenceIdeal.Value.run (F := Ideal) m ρ)

/-- A comparison "magnitude below +∞" that came out true says the number is real. -/
theorem re_of_lt (x : EReal) (h : BitVec.ofBool (decide (max x (-x) < Ideal.ofBits FTy.f32 0x7F800000#32)) = 1#1) : Cert.Top2.Re x := by
  rw [Cert.Top2.top] at h
  by_cases hx : max x (-x) < ⊤
  · exact .of_abs hx
  · rw [decide_eq_false hx] at h
    exact absurd h (by decide)

open Cert.KernelIdeal.Hand in
/-- The precondition says the router's two arguments are real. -/
theorem re_args [Cert.Pre_finite_rows.Facts] (m) (h : Cert.Pre_KernelIdeal_finite_rows m) (c : Dev Cert.KernelIdeal.nD) :
    (∀ i, Cert.Top2.Re (aX m c i)) ∧ ∀ i, Cert.Top2.Re (aW m c i) :=
  ⟨fun i => re_of_lt _ (congrFun (h c).1 i), fun i => re_of_lt _ (congrFun (h c).2 i)⟩

open Cert.KernelIdeal.Hand Cert.ReferenceIdeal.Hand in
/-- The three results of the kernel are the reference's. -/
theorem alg [Cert.Pre_finite_rows.Facts] :
    @Cert.algebraic_KernelIdeal_ReferenceIdeal_pre_finite_rows Cert.KernelIdeal.Gen.facts Cert.ReferenceIdeal.Gen.facts _ := by
  intro m g m' g' hpre hargs
  refine ⟨fun c => head (sh m c) (aH m c) (aB m c), fun c => loss (sh m c) (chosen (sh m c)), fun c => chosen (sh m c),
    run_alg m (fun c => (re_args m hpre c).1) (fun c => (re_args m hpre c).2) g, ?_⟩
  refine (θ_run Cert.ReferenceIdeal.defs _ _).mono (fun r h c => ?_) (Cert.ReferenceIdeal.Hand.run m' g')
  obtain ⟨e0, e1, e2, e3⟩ := hargs c
  obtain ⟨h0, h1, h2, h3⟩ := h c
  rw [e0, e1, e2, e3] at h0
  rw [e0, e1] at h1 h2
  exact ⟨h0, h1, h2, h3⟩

/-- Every claim of Defs.lean. -/
theorem claim : Cert.Claim :=
  ⟨Cert.Kernel.Gen.facts, Cert.KernelIdeal.Gen.facts, Cert.ReferenceIdeal.Gen.facts, facts_pre,
    fun m g _ => Cert.Kernel.Hand.frame m g, fun m g _ => Cert.KernelIdeal.Hand.frame m g, fun m g _ => Cert.KernelIdeal.Hand.frame m g,
    frame_r, fun m g _ => frame_r m g trivial, trivial, @alg facts_pre⟩

end Cert.Proof
